-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S32x256x256 : Shape := ⟨3, ![32, 256, 256]⟩
abbrev S32x256x128 : Shape := ⟨3, ![32, 256, 128]⟩
abbrev S32x256x32 : Shape := ⟨3, ![32, 256, 32]⟩
abbrev S256x4x96 : Shape := ⟨3, ![256, 4, 96]⟩
abbrev S128x4x64 : Shape := ⟨3, ![128, 4, 64]⟩
abbrev S_ : Shape := ⟨0, ![]⟩

class Facts : Prop where
  bcast_S_S32x256x256 : S_.BroadcastsInDim S32x256x256 (![] : Fin 0 → Fin S32x256x256.rank)
  bcast_S_S32x256x128 : S_.BroadcastsInDim S32x256x128 (![] : Fin 0 → Fin S32x256x128.rank)
  bcast_S_S32x256x32 : S_.BroadcastsInDim S32x256x32 (![] : Fin 0 → Fin S32x256x32.rank)
  bcast_S_S256x4x96 : S_.BroadcastsInDim S256x4x96 (![] : Fin 0 → Fin S256x4x96.rank)
  bcast_S_S128x4x64 : S_.BroadcastsInDim S128x4x64 (![] : Fin 0 → Fin S128x4x64.rank)

variable [Facts]

def fn {F : FTy → Type} [FloatOps F] (main_arg0 : FVec F S32x256x256 .f32) (main_arg1 : FVec F S32x256x128 .f32) (main_arg2 : FVec F S32x256x32 .f32) (main_arg3 : FVec F S256x4x96 .f32) (main_arg4 : FVec F S128x4x64 .f32) (main_arg5 : FVec F S128x4x64 .f32) : IVec S32x256x256 1 × IVec S32x256x128 1 × IVec S32x256x32 1 × IVec S256x4x96 1 × IVec S128x4x64 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_v3 : FVec F S32x256x128 .f32 := Host.absf main_arg1
  let main_cst_0 : FVec F S_ .f32 := constant S_ .f32 0x7F800000#32
  let main_v4 : FVec F S32x256x128 .f32 := broadcastInDim S32x256x128 ![] bcast_S_S32x256x128 main_cst_0
  let main_v5 : IVec S32x256x128 1 := cmpf .olt main_v3 main_v4
  let main_v6 : FVec F S32x256x32 .f32 := Host.absf main_arg2
  let main_cst_1 : FVec F S_ .f32 := constant S_ .f32 0x7F800000#32
  let main_v7 : FVec F S32x256x32 .f32 := broadcastInDim S32x256x32 ![] bcast_S_S32x256x32 main_cst_1
  let main_v8 : IVec S32x256x32 1 := cmpf .olt main_v6 main_v7
  let main_v9 : FVec F S256x4x96 .f32 := Host.absf main_arg3
  let main_cst_2 : FVec F S_ .f32 := constant S_ .f32 0x7F800000#32
  let main_v10 : FVec F S256x4x96 .f32 := broadcastInDim S256x4x96 ![] bcast_S_S256x4x96 main_cst_2
  let main_v11 : IVec S256x4x96 1 := cmpf .olt main_v9 main_v10
  let main_v12 : FVec F S128x4x64 .f32 := Host.absf main_arg4
  let main_cst_3 : FVec F S_ .f32 := constant S_ .f32 0x7F800000#32
  let main_v13 : FVec F S128x4x64 .f32 := broadcastInDim S128x4x64 ![] bcast_S_S128x4x64 main_cst_3
  let main_v14 : IVec S128x4x64 1 := cmpf .olt main_v12 main_v13
  (main_v2, main_v5, main_v8, main_v11, main_v14)
-- ==== Kernel.lean ====
abbrev S32x256x256 : Shape := ⟨3, ![32, 256, 256]⟩
abbrev S32x256x128 : Shape := ⟨3, ![32, 256, 128]⟩
abbrev S32x256x32 : Shape := ⟨3, ![32, 256, 32]⟩
abbrev S256x4x96 : Shape := ⟨3, ![256, 4, 96]⟩
abbrev S128x4x64 : Shape := ⟨3, ![128, 4, 64]⟩
abbrev S_ : Shape := ⟨0, ![]⟩
abbrev S32x256x64 : Shape := ⟨3, ![32, 256, 64]⟩
abbrev S32x256x8 : Shape := ⟨3, ![32, 256, 8]⟩
abbrev S256x96 : Shape := ⟨2, ![256, 96]⟩
abbrev S256x32 : Shape := ⟨2, ![256, 32]⟩
abbrev S256x128 : Shape := ⟨2, ![256, 128]⟩
abbrev S8192x256 : Shape := ⟨2, ![8192, 256]⟩
abbrev S8192x128 : Shape := ⟨2, ![8192, 128]⟩
abbrev S256x64 : Shape := ⟨2, ![256, 64]⟩
abbrev S128x64 : Shape := ⟨2, ![128, 64]⟩
abbrev S256x1x32 : Shape := ⟨3, ![256, 1, 32]⟩
abbrev S256x1x64 : Shape := ⟨3, ![256, 1, 64]⟩
abbrev S256x8 : Shape := ⟨2, ![256, 8]⟩
abbrev S128x1x64 : Shape := ⟨3, ![128, 1, 64]⟩
abbrev S256x512 : Shape := ⟨2, ![256, 512]⟩
abbrev S128x512 : Shape := ⟨2, ![128, 512]⟩
abbrev S256x256 : Shape := ⟨2, ![256, 256]⟩
abbrev S4x256x128 : Shape := ⟨3, ![4, 256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 94
  | .vmem => 19
  | .smem => 0
  | _ => 0

abbrev bufTy : (tb : Table) → Fin (tcTables nBuf tb) → BufTy
  | .hbm, ⟨0, _⟩ => ⟨S32x256x256, .f32⟩
  | .hbm, ⟨1, _⟩ => ⟨S32x256x128, .f32⟩
  | .hbm, ⟨2, _⟩ => ⟨S32x256x32, .f32⟩
  | .hbm, ⟨3, _⟩ => ⟨S256x4x96, .f32⟩
  | .hbm, ⟨4, _⟩ => ⟨S128x4x64, .f32⟩
  | .hbm, ⟨5, _⟩ => ⟨S128x4x64, .f32⟩
  | .hbm, ⟨6, _⟩ => ⟨S_, .f32⟩
  | .hbm, ⟨7, _⟩ => ⟨S32x256x64, .f32⟩
  | .hbm, ⟨8, _⟩ => ⟨S_, .f32⟩
  | .hbm, ⟨9, _⟩ => ⟨S32x256x32, .f32⟩
  | .hbm, ⟨10, _⟩ => ⟨S32x256x8, .f32⟩
  | .hbm, ⟨11, _⟩ => ⟨S32x256x8, .f32⟩
  | .hbm, ⟨12, _⟩ => ⟨S32x256x8, .f32⟩
  | .hbm, ⟨13, _⟩ => ⟨S32x256x8, .f32⟩
  | .hbm, ⟨14, _⟩ => ⟨S32x256x32, .f32⟩
  | .hbm, ⟨15, _⟩ => ⟨S32x256x256, .f32⟩
  | .hbm, ⟨16, _⟩ => ⟨S_, .f32⟩
  | .hbm, ⟨17, _⟩ => ⟨S256x96, .f32⟩
  | .hbm, ⟨18, _⟩ => ⟨S_, .f32⟩
  | .hbm, ⟨19, _⟩ => ⟨S256x32, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S8192x256, .f32⟩
  | .hbm, ⟨24, _⟩ => ⟨S8192x256, .bf16⟩
  | .hbm, ⟨25, _⟩ => ⟨S8192x128, .f32⟩
  | .hbm, ⟨26, _⟩ => ⟨S8192x256, .f32⟩
  | .hbm, ⟨27, _⟩ => ⟨S_, .f32⟩
  | .hbm, ⟨28, _⟩ => ⟨S256x32, .f32⟩
  | .hbm, ⟨29, _⟩ => ⟨S_, .f32⟩
  | .hbm, ⟨30, _⟩ => ⟨S256x64, .f32⟩
  | .hbm, ⟨31, _⟩ => ⟨S_, .f32⟩
  | .hbm, ⟨32, _⟩ => ⟨S128x64, .f32⟩
  | .hbm, ⟨33, _⟩ => ⟨S256x1x32, .f32⟩
  | .hbm, ⟨34, _⟩ => ⟨S256x32, .f32⟩
  | .hbm, ⟨35, _⟩ => ⟨S256x1x64, .f32⟩
  | .hbm, ⟨36, _⟩ => ⟨S256x64, .f32⟩
  | .hbm, ⟨37, _⟩ => ⟨S256x8, .f32⟩
  | .hbm, ⟨38, _⟩ => ⟨S256x8, .f32⟩
  | .hbm, ⟨39, _⟩ => ⟨S256x8, .f32⟩
  | .hbm, ⟨40, _⟩ => ⟨S256x8, .f32⟩
  | .hbm, ⟨41, _⟩ => ⟨S256x32, .f32⟩
  | .hbm, ⟨42, _⟩ => ⟨S128x1x64, .f32⟩
  | .hbm, ⟨43, _⟩ => ⟨S128x64, .f32⟩
  | .hbm, ⟨44, _⟩ => ⟨S128x1x64, .f32⟩
  | .hbm, ⟨45, _⟩ => ⟨S128x64, .f32⟩
  | .hbm, ⟨46, _⟩ => ⟨S256x1x32, .f32⟩
  | .hbm, ⟨47, _⟩ => ⟨S256x32, .f32⟩
  | .hbm, ⟨48, _⟩ => ⟨S256x1x64, .f32⟩
  | .hbm, ⟨49, _⟩ => ⟨S256x64, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S256x32, .f32⟩
  | .hbm, ⟨55, _⟩ => ⟨S128x1x64, .f32⟩
  | .hbm, ⟨56, _⟩ => ⟨S128x64, .f32⟩
  | .hbm, ⟨57, _⟩ => ⟨S128x1x64, .f32⟩
  | .hbm, ⟨58, _⟩ => ⟨S128x64, .f32⟩
  | .hbm, ⟨59, _⟩ => ⟨S256x1x32, .f32⟩
  | .hbm, ⟨60, _⟩ => ⟨S256x32, .f32⟩
  | .hbm, ⟨61, _⟩ => ⟨S256x1x64, .f32⟩
  | .hbm, ⟨62, _⟩ => ⟨S256x64, .f32⟩
  | .hbm, ⟨63, _⟩ => ⟨S256x8, .f32⟩
  | .hbm, ⟨64, _⟩ => ⟨S256x8, .f32⟩
  | .hbm, ⟨65, _⟩ => ⟨S256x8, .f32⟩
  | .hbm, ⟨66, _⟩ => ⟨S256x8, .f32⟩
  | .hbm, ⟨67, _⟩ => ⟨S256x32, .f32⟩
  | .hbm, ⟨68, _⟩ => ⟨S128x1x64, .f32⟩
  | .hbm, ⟨69, _⟩ => ⟨S128x64, .f32⟩
  | .hbm, ⟨70, _⟩ => ⟨S128x1x64, .f32⟩
  | .hbm, ⟨71, _⟩ => ⟨S128x64, .f32⟩
  | .hbm, ⟨72, _⟩ => ⟨S256x1x32, .f32⟩
  | .hbm, ⟨73, _⟩ => ⟨S256x32, .f32⟩
  | .hbm, ⟨74, _⟩ => ⟨S256x1x64, .f32⟩
  | .hbm, ⟨75, _⟩ => ⟨S256x64, .f32⟩
  | .hbm, ⟨76, _⟩ => ⟨S256x8, .f32⟩
  | .hbm, ⟨77, _⟩ => ⟨S256x8, .f32⟩
  | .hbm, ⟨78, _⟩ => ⟨S256x8, .f32⟩
  | .hbm, ⟨79, _⟩ => ⟨S256x8, .f32⟩
  | .hbm, ⟨80, _⟩ => ⟨S256x32, .f32⟩
  | .hbm, ⟨81, _⟩ => ⟨S128x1x64, .f32⟩
  | .hbm, ⟨82, _⟩ => ⟨S128x64, .f32⟩
  | .hbm, ⟨83, _⟩ => ⟨S128x1x64, .f32⟩
  | .hbm, ⟨84, _⟩ => ⟨S128x64, .f32⟩
  | .hbm, ⟨85, _⟩ => ⟨S256x512, .f32⟩
  | .hbm, ⟨86, _⟩ => ⟨S256x512, .bf16⟩
  | .hbm, ⟨87, _⟩ => ⟨S256x512, .f32⟩
  | .hbm, ⟨88, _⟩ => ⟨S256x512, .bf16⟩
  | .hbm, ⟨89, _⟩ => ⟨S128x512, .f32⟩
  | .hbm, ⟨90, _⟩ => ⟨S128x512, .bf16⟩
  | .hbm, ⟨91, _⟩ => ⟨S128x512, .f32⟩
  | .hbm, ⟨92, _⟩ => ⟨S128x512, .bf16⟩
  | .hbm, ⟨93, _⟩ => ⟨S8192x256, .f32⟩
  | .local _ .vmem, ⟨0, _⟩ => ⟨S256x256, .bf16⟩
  | .local _ .vmem, ⟨1, _⟩ => ⟨S256x256, .bf16⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S128x512, .bf16⟩
  | .local _ .vmem, ⟨13, _⟩ => ⟨S128x512, .bf16⟩
  | .local _ .vmem, ⟨14, _⟩ => ⟨S256x256, .f32⟩
  | .local _ .vmem, ⟨15, _⟩ => ⟨S256x256, .f32⟩
  | .local _ .vmem, ⟨16, _⟩ => ⟨S4x256x128, .bf16⟩
  | .local _ .vmem, ⟨17, _⟩ => ⟨S4x256x128, .bf16⟩
  | .local _ .vmem, ⟨18, _⟩ => ⟨S256x256, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_78 : BitVec 32 := 0#32
  let c256_i32 : BitVec 32 := 256#32
  let v173 : BitVec 32 := Scalar.muli c0_i32_78 c256_i32
  v173
def k0_off1 : Fin 2 → Nat :=
  let c0_i32_78 : BitVec 32 := 0#32
  let c256_i32 : BitVec 32 := 256#32
  let v173 : BitVec 32 := Scalar.muli c0_i32_78 c256_i32
  let v174 : BitVec 32 := v173
  let v175 : Index := Scalar.indexCast v174
  let c0_79 : Index := 0#32
  ![v175.toNat, 0]
def k0_off2 : Fin 2 → Nat :=
  let c0_i32_78 : BitVec 32 := 0#32
  let c256_i32 : BitVec 32 := 256#32
  let v173 : BitVec 32 := Scalar.muli c0_i32_78 c256_i32
  let v174 : BitVec 32 := v173
  let v186 : Index := Scalar.indexCast v174
  let c0_86 : Index := 0#32
  ![v186.toNat, 0]
def k0_mult2 : BitVec 32 :=
  let c0_i32_89 : BitVec 32 := 0#32
  let c0_i32_78 : BitVec 32 := 0#32
  let c256_i32 : BitVec 32 := 256#32
  let v173 : BitVec 32 := Scalar.muli c0_i32_78 c256_i32
  let v174 : BitVec 32 := v173
  let v200 : BitVec 32 := Scalar.addi c0_i32_89 v174
  v200
def k0_off3 : Fin 3 → Nat :=
  let c0_90 : Index := 0#32
  let c0_i32_89 : BitVec 32 := 0#32
  let c0_i32_78 : BitVec 32 := 0#32
  let c256_i32 : BitVec 32 := 256#32
  let v173 : BitVec 32 := Scalar.muli c0_i32_78 c256_i32
  let v174 : BitVec 32 := v173
  let v200 : BitVec 32 := Scalar.addi c0_i32_89 v174
  let v201 : BitVec 32 := v200
  let v205 : Index := Scalar.indexCast v201
  let c0_91 : Index := 0#32
  ![0, v205.toNat, 0]
def k0_off4 : Fin 3 → Nat :=
  let c1_94 : Index := 1#32
  let c0_i32_89 : BitVec 32 := 0#32
  let c0_i32_78 : BitVec 32 := 0#32
  let c256_i32 : BitVec 32 := 256#32
  let v173 : BitVec 32 := Scalar.muli c0_i32_78 c256_i32
  let v174 : BitVec 32 := v173
  let v200 : BitVec 32 := Scalar.addi c0_i32_89 v174
  let v201 : BitVec 32 := v200
  let v218 : Index := Scalar.indexCast v201
  let c0_95 : Index := 0#32
  ![1, v218.toNat, 0]
def k0_off5 : Fin 3 → Nat :=
  let c2_98 : Index := 2#32
  let c0_i32_89 : BitVec 32 := 0#32
  let c0_i32_78 : BitVec 32 := 0#32
  let c256_i32 : BitVec 32 := 256#32
  let v173 : BitVec 32 := Scalar.muli c0_i32_78 c256_i32
  let v174 : BitVec 32 := v173
  let v200 : BitVec 32 := Scalar.addi c0_i32_89 v174
  let v201 : BitVec 32 := v200
  let v231 : Index := Scalar.indexCast v201
  let c0_99 : Index := 0#32
  ![2, v231.toNat, 0]
def k0_off6 : Fin 3 → Nat :=
  let c3_102 : Index := 3#32
  let c0_i32_89 : BitVec 32 := 0#32
  let c0_i32_78 : BitVec 32 := 0#32
  let c256_i32 : BitVec 32 := 256#32
  let v173 : BitVec 32 := Scalar.muli c0_i32_78 c256_i32
  let v174 : BitVec 32 := v173
  let v200 : BitVec 32 := Scalar.addi c0_i32_89 v174
  let v201 : BitVec 32 := v200
  let v244 : Index := Scalar.indexCast v201
  let c0_103 : Index := 0#32
  ![3, v244.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32x256x256 : Shape := ⟨3, ![32, 256, 256]⟩
abbrev S32x256x128 : Shape := ⟨3, ![32, 256, 128]⟩
abbrev S32x256x32 : Shape := ⟨3, ![32, 256, 32]⟩
abbrev S256x4x96 : Shape := ⟨3, ![256, 4, 96]⟩
abbrev S128x4x64 : Shape := ⟨3, ![128, 4, 64]⟩
abbrev S32x256x4x96 : Shape := ⟨4, ![32, 256, 4, 96]⟩
abbrev S32x256x4x64 : Shape := ⟨4, ![32, 256, 4, 64]⟩
abbrev S32x256x1x32 : Shape := ⟨4, ![32, 256, 1, 32]⟩
abbrev S32x256x4x32 : Shape := ⟨4, ![32, 256, 4, 32]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x4x64x256 : Shape := ⟨4, ![32, 4, 64, 256]⟩
abbrev S8192x256 : Shape := ⟨2, ![8192, 256]⟩

abbrev nBuf : Space → Nat
  | .hbm => 34
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x128, .f32⟩
  | .hbm, ⟨2, _⟩ => ⟨S32x256x32, .f32⟩
  | .hbm, ⟨3, _⟩ => ⟨S256x4x96, .f32⟩
  | .hbm, ⟨4, _⟩ => ⟨S128x4x64, .f32⟩
  | .hbm, ⟨5, _⟩ => ⟨S128x4x64, .f32⟩
  | .hbm, ⟨6, _⟩ => ⟨S32x256x4x96, .f32⟩
  | .hbm, ⟨7, _⟩ => ⟨S32x256x4x64, .f32⟩
  | .hbm, ⟨8, _⟩ => ⟨S32x256x4x64, .f32⟩
  | .hbm, ⟨9, _⟩ => ⟨S32x256x1x32, .f32⟩
  | .hbm, ⟨10, _⟩ => ⟨S32x256x4x32, .f32⟩
  | .hbm, ⟨11, _⟩ => ⟨S32x256x4x96, .f32⟩
  | .hbm, ⟨12, _⟩ => ⟨S32x4x256x256, .f32⟩
  | .hbm, ⟨13, _⟩ => ⟨S_, .f32⟩
  | .hbm, ⟨14, _⟩ => ⟨S32x4x256x256, .f32⟩
  | .hbm, ⟨15, _⟩ => ⟨S32x4x256x256, .f32⟩
  | .hbm, ⟨16, _⟩ => ⟨S_, .f32⟩
  | .hbm, ⟨17, _⟩ => ⟨S32x4x256, .f32⟩
  | .hbm, ⟨18, _⟩ => ⟨S_, .f32⟩
  | .hbm, ⟨19, _⟩ => ⟨S32x4x256, .f32⟩
  | .hbm, ⟨20, _⟩ => ⟨S32x4x256, .f32⟩
  | .hbm, ⟨21, _⟩ => ⟨S32x4x256x1, .f32⟩
  | .hbm, ⟨22, _⟩ => ⟨S32x4x256x256, .f32⟩
  | .hbm, ⟨23, _⟩ => ⟨S32x4x256x256, .f32⟩
  | .hbm, ⟨24, _⟩ => ⟨S32x4x256x256, .f32⟩
  | .hbm, ⟨25, _⟩ => ⟨S_, .f32⟩
  | .hbm, ⟨26, _⟩ => ⟨S32x4x256, .f32⟩
  | .hbm, ⟨27, _⟩ => ⟨S32x4x256x1, .f32⟩
  | .hbm, ⟨28, _⟩ => ⟨S32x4x256x256, .f32⟩
  | .hbm, ⟨29, _⟩ => ⟨S32x4x256x256, .f32⟩
  | .hbm, ⟨30, _⟩ => ⟨S32x4x64x256, .f32⟩
  | .hbm, ⟨31, _⟩ => ⟨S32x256x4x64, .f32⟩
  | .hbm, ⟨32, _⟩ => ⟨S32x256x256, .f32⟩
  | .hbm, ⟨33, _⟩ => ⟨S8192x256, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel2.lean ====
abbrev S16384x1024 : Shape := ⟨2, ![16384, 1024]⟩
abbrev S16384x16 : Shape := ⟨2, ![16384, 16]⟩
abbrev S1x6144 : Shape := ⟨2, ![1, 6144]⟩
abbrev S2x6144 : Shape := ⟨2, ![2, 6144]⟩
abbrev S16x1024x256 : Shape := ⟨3, ![16, 1024, 256]⟩
abbrev S16x256x1024 : Shape := ⟨3, ![16, 256, 1024]⟩
abbrev S1024 : Shape := ⟨1, ![1024]⟩
abbrev S64 : Shape := ⟨1, ![64]⟩
abbrev S_ : Shape := ⟨0, ![]⟩
abbrev S5x6144 : Shape := ⟨2, ![5, 6144]⟩
abbrev S8x6144 : Shape := ⟨2, ![8, 6144]⟩
abbrev S64x1 : Shape := ⟨2, ![64, 1]⟩
abbrev S64x6144 : Shape := ⟨2, ![64, 6144]⟩
abbrev S64x6x1024 : Shape := ⟨3, ![64, 6, 1024]⟩
abbrev S64x8x1024 : Shape := ⟨3, ![64, 8, 1024]⟩
abbrev S16384x128 : Shape := ⟨2, ![16384, 128]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S1x4096x1024 : Shape := ⟨3, ![1, 4096, 1024]⟩
abbrev S8192x1024 : Shape := ⟨2, ![8192, 1024]⟩
abbrev S512x1024 : Shape := ⟨2, ![512, 1024]⟩
abbrev S512x128 : Shape := ⟨2, ![512, 128]⟩
abbrev S1x8x1024 : Shape := ⟨3, ![1, 8, 1024]⟩
abbrev S512x4096 : Shape := ⟨2, ![512, 4096]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S4096x1024 : Shape := ⟨2, ![4096, 1024]⟩
abbrev S8x1024 : Shape := ⟨2, ![8, 1024]⟩

abbrev nBuf : Space → Nat
  | .hbm => 38
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x16, .f32⟩
  | .hbm, ⟨2, _⟩ => ⟨S16384x1024, .f32⟩
  | .hbm, ⟨3, _⟩ => ⟨S1x6144, .f32⟩
  | .hbm, ⟨4, _⟩ => ⟨S2x6144, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S64, .i32⟩
  | .hbm, ⟨10, _⟩ => ⟨S64, .i1⟩
  | .hbm, ⟨11, _⟩ => ⟨S_, .f32⟩
  | .hbm, ⟨12, _⟩ => ⟨S5x6144, .f32⟩
  | .hbm, ⟨13, _⟩ => ⟨S8x6144, .f32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64x6144, .f32⟩
  | .hbm, ⟨20, _⟩ => ⟨S64x6x1024, .f32⟩
  | .hbm, ⟨21, _⟩ => ⟨S_, .i32⟩
  | .hbm, ⟨22, _⟩ => ⟨S_, .f32⟩
  | .hbm, ⟨23, _⟩ => ⟨S64x8x1024, .f32⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S16x1024x256, .bf16⟩
  | .hbm, ⟨28, _⟩ => ⟨S16x1024x256, .bf16⟩
  | .hbm, ⟨29, _⟩ => ⟨S16x256x1024, .bf16⟩
  | .hbm, ⟨30, _⟩ => ⟨S16384x1024, .bf16⟩
  | .hbm, ⟨31, _⟩ => ⟨S1x16x1024x256, .bf16⟩
  | .hbm, ⟨32, _⟩ => ⟨S1x16x1024x256, .bf16⟩
  | .hbm, ⟨33, _⟩ => ⟨S1x16x256x1024, .bf16⟩
  | .hbm, ⟨34, _⟩ => ⟨S1x1024, .f32⟩
  | .hbm, ⟨35, _⟩ => ⟨S1x4096x1024, .bf16⟩
  | .hbm, ⟨36, _⟩ => ⟨S8192x1024, .f32⟩
  | .hbm, ⟨37, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x16x1024x256, .bf16⟩
  | .local _ .vmem, ⟨9, _⟩ => ⟨S1x16x1024x256, .bf16⟩
  | .local _ .vmem, ⟨10, _⟩ => ⟨S1x4096x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call0_v0 : Ref sig .tc := ⟨.hbm, 22, rfl⟩
abbrev main_v8 : Ref sig .tc := ⟨.hbm, 23, rfl⟩
abbrev main_c_3 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v365 : BitVec 1 := Scalar.cmpi .slt arg0 c16_i32
  let v366 : BitVec 32 := Scalar.extui v365
  let c0_i32_212 : BitVec 32 := 0#32
  let v367 : BitVec 1 := Scalar.cmpi .ne v366 c0_i32_212
  v367

def k0_cond2 (i : grid0.Coords) : BitVec 1 :=
  let arg0 : BitVec 32 := BitVec.ofNat 32 (i 0).val
  let c16_i32_213 : BitVec 32 := 16#32
  let v368 : BitVec 1 := Scalar.cmpi .sge arg0 c16_i32_213
  let v369 : BitVec 32 := Scalar.extui v368
  let c0_i32_214 : BitVec 32 := 0#32
  let v370 : BitVec 1 := Scalar.cmpi .ne v369 c0_i32_214
  v370

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S16384x16 : Shape := ⟨2, ![16384, 16]⟩
abbrev S1x6144 : Shape := ⟨2, ![1, 6144]⟩
abbrev S2x6144 : Shape := ⟨2, ![2, 6144]⟩
abbrev S16x1024x256 : Shape := ⟨3, ![16, 1024, 256]⟩
abbrev S16x256x1024 : Shape := ⟨3, ![16, 256, 1024]⟩
abbrev S1024 : Shape := ⟨1, ![1024]⟩
abbrev S16384x16x256 : Shape := ⟨3, ![16384, 16, 256]⟩
abbrev S_ : Shape := ⟨0, ![]⟩
abbrev S16384x16x1 : Shape := ⟨3, ![16384, 16, 1]⟩
abbrev S16384 : Shape := ⟨1, ![16384]⟩
abbrev S16384x1 : Shape := ⟨2, ![16384, 1]⟩
abbrev S1x1024 : Shape := ⟨2, ![1, 1024]⟩
abbrev S2x1024 : Shape := ⟨2, ![2, 1024]⟩
abbrev S8192x1024 : Shape := ⟨2, ![8192, 1024]⟩
abbrev S2x4096x1024 : Shape := ⟨3, ![2, 4096, 1024]⟩
abbrev S2x1x1024 : Shape := ⟨3, ![2, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x16, .f32⟩
  | .hbm, ⟨2, _⟩ => ⟨S16384x1024, .f32⟩
  | .hbm, ⟨3, _⟩ => ⟨S1x6144, .f32⟩
  | .hbm, ⟨4, _⟩ => ⟨S2x6144, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S16384x16x256, .f32⟩
  | .hbm, ⟨10, _⟩ => ⟨S16384x16x256, .f32⟩
  | .hbm, ⟨11, _⟩ => ⟨S16384x16x256, .f32⟩
  | .hbm, ⟨12, _⟩ => ⟨S_, .f32⟩
  | .hbm, ⟨13, _⟩ => ⟨S16384x16x256, .f32⟩
  | .hbm, ⟨14, _⟩ => ⟨S16384x16x256, .f32⟩
  | .hbm, ⟨15, _⟩ => ⟨S_, .f32⟩
  | .hbm, ⟨16, _⟩ => ⟨S16384x16x256, .f32⟩
  | .hbm, ⟨17, _⟩ => ⟨S16384x16x256, .f32⟩
  | .hbm, ⟨18, _⟩ => ⟨S16384x16x256, .f32⟩
  | .hbm, ⟨19, _⟩ => ⟨S16384x16x256, .f32⟩
  | .hbm, ⟨20, _⟩ => ⟨S16384x16x256, .f32⟩
  | .hbm, ⟨21, _⟩ => ⟨S16384x16x1, .f32⟩
  | .hbm, ⟨22, _⟩ => ⟨S16384x16x256, .f32⟩
  | .hbm, ⟨23, _⟩ => ⟨S16384x16x256, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S2x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S2x4096x1024, .f32⟩
  | .hbm, ⟨50, _⟩ => ⟨S2x1x1024, .f32⟩
  | .hbm, ⟨51, _⟩ => ⟨S8192x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.MlaRun.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit.Acc
public import Idealize.ShloMosaic.Lib.Pipeline.ReadBack

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off1_eq : k0_off1 = ![0, 0] := by decide +kernel
theorem off2_eq : k0_off2 = ![0, 0] := by decide +kernel
theorem off3_eq : k0_off3 = ![0, 0, 0] := by decide +kernel
theorem off4_eq : k0_off4 = ![1, 0, 0] := by decide +kernel
theorem off5_eq : k0_off5 = ![2, 0, 0] := by decide +kernel
theorem off6_eq : k0_off6 = ![3, 0, 0] := by decide +kernel

/-- What one point stores: each head's attention of the block's queries over the keys and values of their sequence,
the four heads side by side. -/
def mlaRes (x0 : Vec F S256x256 .bf16) (x1 : Vec F S256x128 .f32) (x2 : Vec F S256x256 .f32) (x3 x4 x5 x6 : Vec F S256x128 .f32) (x7 x8 : Vec F S256x512 .bf16) (x9 x10 : Vec F S128x512 .bf16) : Vec F S256x256 .f32 :=
  k0_pay1
    (k0_pay22 (k0_pay21 x0 x7 x8 x3 x4 (k0_pay6 x1 x9 x2 x5 x6)) (k0_pay20 x0 x7 x8 x3 x4 (k0_pay6 x1 x9 x2 x5 x6)) (k0_pay7 x1 x10))
    (k0_pay27 (k0_pay25 (k0_pay15 x0 x7) (k0_pay16 x0 x8) (k0_pay17 x3) (k0_pay18 x4) (k0_pay8 (k0_pay3 x1 x9) (k0_pay5 x2 x5 x6)))
      k0_pay26 (Scalar.ofBits .f32 0x00000000#32)
      (k0_pay24 (k0_pay15 x0 x7) (k0_pay16 x0 x8) (k0_pay17 x3) (k0_pay18 x4) (k0_pay8 (k0_pay3 x1 x9) (k0_pay5 x2 x5 x6))) (k0_pay9 (k0_pay4 x1 x10)))
    (k0_pay33 (k0_pay30 (k0_pay15 x0 x7) (k0_pay16 x0 x8) (k0_pay17 x3) (k0_pay18 x4) (k0_pay10 (k0_pay3 x1 x9) (k0_pay5 x2 x5 x6)))
      k0_pay31 k0_pay32
      (k0_pay29 (k0_pay15 x0 x7) (k0_pay16 x0 x8) (k0_pay17 x3) (k0_pay18 x4) (k0_pay10 (k0_pay3 x1 x9) (k0_pay5 x2 x5 x6))) (k0_pay11 (k0_pay4 x1 x10)))
    k0_pay36 k0_pay37
    (k0_pay38 (k0_pay15 x0 x7) (k0_pay16 x0 x8) (k0_pay17 x3) (k0_pay18 x4) (k0_pay12 (k0_pay3 x1 x9) (k0_pay5 x2 x5 x6))
      (k0_pay35 (k0_pay15 x0 x7) (k0_pay16 x0 x8) (k0_pay17 x3) (k0_pay18 x4) (k0_pay12 (k0_pay3 x1 x9) (k0_pay5 x2 x5 x6))))
    (k0_pay13 (k0_pay4 x1 x10))

/-- A load of a stored box, its corner written another way, reads what was stored there. -/
theorem readCov_hit {sig : RefSig} {κ : Kind} {sp : Space} {S : Shape} {e : EltTy} {Val : EltTy → Type} [∀ e, Nonempty (Val e)]
    (v : View sig κ sp S e) {off off' : Fin S.rank → ℕ} {size : Fin S.rank → ℕ} (inb : ∀ a, off a + size a ≤ S.size a)
    (inb' : ∀ a, off' a + size a ≤ S.size a) (w : (Rect.unit off size inb).shape.Idx → Val e) (L : List (View.Piece Val S e)) (h : off = off') :
    v.readCov (⟨Rect.unit off size inb, w⟩ :: L) (Rect.unit off' size inb').toLoadRect = w := by
  subst h
  exact View.readCov_cons_toLoadRect v _ w L

set_option maxHeartbeats 4000000 in
/-- One point of the attention call: the keys and values of its sequence are built and every head attends to them. -/
theorem runM (c : Dev nD) (i : grid0.Coords) (arg2 : Memref sig .tc .vmem S256x256 .bf16) (harg2 : arg2.IsWhole) (arg3 : Memref sig .tc .vmem S256x128 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x512 .bf16) (harg9 : arg9.IsWhole) (arg10 : Memref sig .tc .vmem S256x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x256 .f32) (harg13 : arg13.IsWhole) (arg14 : Memref sig .tc .vmem S4x256x128 .bf16) (harg14 : arg14.IsWhole) (arg15 : Memref sig .tc .vmem S4x256x128 .bf16) (harg15 : arg15.IsWhole) (arg16 : Memref sig .tc .vmem S256x256 .f32) (harg16 : arg16.IsWhole) (hc1 : k0_cond1 i = 1#1) (x0 : Vec F S256x256 .bf16) (x1 : Vec F S256x128 .f32) (x2 : Vec F S256x256 .f32) (x3 : Vec F S256x128 .f32) (x4 : Vec F S256x128 .f32) (x5 : Vec F S256x128 .f32) (x6 : Vec F S256x128 .f32) (x7 : Vec F S256x512 .bf16) (x8 : Vec F S256x512 .bf16) (x9 : Vec F S128x512 .bf16) (x10 : Vec F S128x512 .bf16) (y : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (mlaRes x0 x1 x2 x3 x4 x5 x6 x7 x8 x9 x10) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_mla i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  simp only [cc0_mla_eq_skeleton]; unfold cc0_mla_skel
  simp only [k0_part1_eq_skeleton, k0_part2_eq_skeleton, k0_part3_eq_skeleton, k0_part4_eq_skeleton, k0_part5_eq_skeleton, k0_part6_eq_skeleton]
  unfold k0_part3_skel k0_part4_skel k0_part5_skel k0_part6_skel
  simp only [k0_part2_eq_skeleton]; unfold k0_part2_skel
  simp only [k0_part1_eq_skeleton]; unfold k0_part1_skel
  simp only [off1_eq, off2_eq, off3_eq, off4_eq, off5_eq, off6_eq]
  sl_exec (disch := sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact harg9.read_unread _
  isplitl [H8]
  · iexists _; isplitr; swap; · iexact H8
    ipureintro
    exact harg10.read_unread _
  isplitl [H9]
  · iexists _; isplitr; swap; · iexact H9
    ipureintro
    exact harg11.read_unread _
  isplitl [H10]
  · iexists _; isplitr; swap; · iexact H10
    ipureintro
    exact harg12.read_unread _
  isplitl [H11]
  · iexists _; isplitr; swap; · iexact H11
    ipureintro
    rw [View.read_writes_full]
    delta runM.sl.v23 runM.sl.v36 runM.sl.v44 runM.sl.v62 runM.sl.v75 runM.sl.v83 runM.sl.v101 runM.sl.v114 runM.sl.v122 runM.sl.v140 runM.sl.v153 runM.sl.v161
    delta runM.sl.HS2_1 runM.sl.HS2_2 runM.sl.HS2_3 runM.sl.HS2_4
    delta runM.sl.v23 runM.sl.v62 runM.sl.v101 runM.sl.v140
    delta runM.sl.HS0_4 runM.sl.HS1_4
    delta runM.sl.v176 runM.sl.v187 runM.sl.v191 runM.sl.v196
    have e0 := View.ld_unit_lit (S := S256x256) inb_S256x256_S256x256_0_0 x0 (by decide)
    have e1 := View.ld_unit_lit (S := S256x128) inb_S256x128_S256x128_0_0 x1 (by decide)
    have e2 := View.ld_unit_lit (S := S256x256) inb_S256x256_S256x256_0_0 x2 (by decide)
    have e3 := View.ld_unit_lit (S := S256x128) inb_S256x128_S256x128_0_0 x3 (by decide)
    have e4 := View.ld_unit_lit (S := S256x128) inb_S256x128_S256x128_0_0 x4 (by decide)
    have e5 := View.ld_unit_lit (S := S256x128) inb_S256x128_S256x128_0_0 x5 (by decide)
    have e6 := View.ld_unit_lit (S := S256x128) inb_S256x128_S256x128_0_0 x6 (by decide)
    have e7 := View.ld_unit_lit (S := S256x512) inb_S256x512_S256x512_0_0 x7 (by decide)
    have e8 := View.ld_unit_lit (S := S256x512) inb_S256x512_S256x512_0_0 x8 (by decide)
    have e9 := View.ld_unit_lit (S := S128x512) inb_S128x512_S128x512_0_0 x9 (by decide)
    have e10 := View.ld_unit_lit (S := S128x512) inb_S128x512_S128x512_0_0 x10 (by decide)
    have f1 := View.ld_unit_lit (S := S256x128) (off := k0_off1) (k0_off1_inb i hc1) x1 (by decide)
    have f2 := View.ld_unit_lit (S := S256x256) (off := k0_off2) (k0_off2_inb i hc1) x2 (by decide)
    have f5 := View.ld_unit_lit (S := S256x128) (off := k0_off1) (k0_off1_inb i hc1) x5 (by decide)
    have f6 := View.ld_unit_lit (S := S256x128) (off := k0_off1) (k0_off1_inb i hc1) x6 (by decide)
    have g0 : ∀ (p : List (View.Piece (Elt F) S4x256x128 .bf16)) (v : View sig .tc .vmem S4x256x128 .bf16) w, v.readCov (⟨Rect.unit (s := S4x256x128) k0_off3 S1x256x128.size (k0_off3_inb i hc1), w⟩ :: p) (Rect.unit (s := S4x256x128) ![0, 0, 0] S1x256x128.size inb_S4x256x128_S1x256x128_0_0_0).toLoadRect = w := fun p v w => readCov_hit v _ _ w p off3_eq
    have g1 : ∀ (p : List (View.Piece (Elt F) S4x256x128 .bf16)) (v : View sig .tc .vmem S4x256x128 .bf16) w, v.readCov (⟨Rect.unit (s := S4x256x128) k0_off4 S1x256x128.size (k0_off4_inb i hc1), w⟩ :: p) (Rect.unit (s := S4x256x128) ![1, 0, 0] S1x256x128.size inb_S4x256x128_S1x256x128_1_0_0).toLoadRect = w := fun p v w => readCov_hit v _ _ w p off4_eq
    have g2 : ∀ (p : List (View.Piece (Elt F) S4x256x128 .bf16)) (v : View sig .tc .vmem S4x256x128 .bf16) w, v.readCov (⟨Rect.unit (s := S4x256x128) k0_off5 S1x256x128.size (k0_off5_inb i hc1), w⟩ :: p) (Rect.unit (s := S4x256x128) ![2, 0, 0] S1x256x128.size inb_S4x256x128_S1x256x128_2_0_0).toLoadRect = w := fun p v w => readCov_hit v _ _ w p off5_eq
    have g3 : ∀ (p : List (View.Piece (Elt F) S4x256x128 .bf16)) (v : View sig .tc .vmem S4x256x128 .bf16) w, v.readCov (⟨Rect.unit (s := S4x256x128) k0_off6 S1x256x128.size (k0_off6_inb i hc1), w⟩ :: p) (Rect.unit (s := S4x256x128) ![3, 0, 0] S1x256x128.size inb_S4x256x128_S1x256x128_3_0_0).toLoadRect = w := fun p v w => readCov_hit v _ _ w p off6_eq
    have s40 : ∀ (p : List (View.Piece (Elt F) S4x256x128 .bf16)) (v : View sig .tc .vmem S4x256x128 .bf16) w, v.readCov (⟨Rect.unit (s := S4x256x128) k0_off4 S1x256x128.size (k0_off4_inb i hc1), w⟩ :: p) (Rect.unit (s := S4x256x128) ![0, 0, 0] S1x256x128.size inb_S4x256x128_S1x256x128_0_0_0).toLoadRect = v.readCov p (Rect.unit (s := S4x256x128) ![0, 0, 0] S1x256x128.size inb_S4x256x128_S1x256x128_0_0_0).toLoadRect := fun p v w => View.readCov_skip v _ w p _ rfl
    have s50 : ∀ (p : List (View.Piece (Elt F) S4x256x128 .bf16)) (v : View sig .tc .vmem S4x256x128 .bf16) w, v.readCov (⟨Rect.unit (s := S4x256x128) k0_off5 S1x256x128.size (k0_off5_inb i hc1), w⟩ :: p) (Rect.unit (s := S4x256x128) ![0, 0, 0] S1x256x128.size inb_S4x256x128_S1x256x128_0_0_0).toLoadRect = v.readCov p (Rect.unit (s := S4x256x128) ![0, 0, 0] S1x256x128.size inb_S4x256x128_S1x256x128_0_0_0).toLoadRect := fun p v w => View.readCov_skip v _ w p _ rfl
    have s51 : ∀ (p : List (View.Piece (Elt F) S4x256x128 .bf16)) (v : View sig .tc .vmem S4x256x128 .bf16) w, v.readCov (⟨Rect.unit (s := S4x256x128) k0_off5 S1x256x128.size (k0_off5_inb i hc1), w⟩ :: p) (Rect.unit (s := S4x256x128) ![1, 0, 0] S1x256x128.size inb_S4x256x128_S1x256x128_1_0_0).toLoadRect = v.readCov p (Rect.unit (s := S4x256x128) ![1, 0, 0] S1x256x128.size inb_S4x256x128_S1x256x128_1_0_0).toLoadRect := fun p v w => View.readCov_skip v _ w p _ rfl
    have s60 : ∀ (p : List (View.Piece (Elt F) S4x256x128 .bf16)) (v : View sig .tc .vmem S4x256x128 .bf16) w, v.readCov (⟨Rect.unit (s := S4x256x128) k0_off6 S1x256x128.size (k0_off6_inb i hc1), w⟩ :: p) (Rect.unit (s := S4x256x128) ![0, 0, 0] S1x256x128.size inb_S4x256x128_S1x256x128_0_0_0).toLoadRect = v.readCov p (Rect.unit (s := S4x256x128) ![0, 0, 0] S1x256x128.size inb_S4x256x128_S1x256x128_0_0_0).toLoadRect := fun p v w => View.readCov_skip v _ w p _ rfl
    have s61 : ∀ (p : List (View.Piece (Elt F) S4x256x128 .bf16)) (v : View sig .tc .vmem S4x256x128 .bf16) w, v.readCov (⟨Rect.unit (s := S4x256x128) k0_off6 S1x256x128.size (k0_off6_inb i hc1), w⟩ :: p) (Rect.unit (s := S4x256x128) ![1, 0, 0] S1x256x128.size inb_S4x256x128_S1x256x128_1_0_0).toLoadRect = v.readCov p (Rect.unit (s := S4x256x128) ![1, 0, 0] S1x256x128.size inb_S4x256x128_S1x256x128_1_0_0).toLoadRect := fun p v w => View.readCov_skip v _ w p _ rfl
    have s62 : ∀ (p : List (View.Piece (Elt F) S4x256x128 .bf16)) (v : View sig .tc .vmem S4x256x128 .bf16) w, v.readCov (⟨Rect.unit (s := S4x256x128) k0_off6 S1x256x128.size (k0_off6_inb i hc1), w⟩ :: p) (Rect.unit (s := S4x256x128) ![2, 0, 0] S1x256x128.size inb_S4x256x128_S1x256x128_2_0_0).toLoadRect = v.readCov p (Rect.unit (s := S4x256x128) ![2, 0, 0] S1x256x128.size inb_S4x256x128_S1x256x128_2_0_0).toLoadRect := fun p v w => View.readCov_skip v _ w p _ rfl
    simp only [↓g0, ↓g1, ↓g2, ↓g3, ↓s40, ↓s50, ↓s51, ↓s60, ↓s61, ↓s62, View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e6, e7, e8, e9, e10, f1, f2, f5, f6]
    rfl

  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Mla

end
-- ==== Proof.MlaFrame.lean ====
module

public import proofs.«01_k».proof.Proof.MlaRun
public import Idealize.ShloMosaic.Lib.Claim

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: every point builds the keys and values of its sequence -/

theorem cond1_true : ∀ t : Fin cfg0.N, k0_cond1 (grid0.coords t) = 1#1 :=
  (by decide +kernel : ∀ t : Fin grid0.N, k0_cond1 (grid0.coords t) = 1#1)

/-! ## The proof data -/

/-- The result block of the points' inputs at point `t`. -/
def resAt (c : Dev nD) (t : Fin cfg0.N) : Vec F S256x256 .f32 :=
  mlaRes (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What every buffer holds after each point: the inputs their blocks, the output its result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => resAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = resAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The staging memrefs and the scratch -/

abbrev ms0_0 (t : Fin cfg0.N) : Memref sig .tc .vmem S256x256 .bf16 := win0_0.stage (cfg0.slots t 0)
abbrev ms0_1 (t : Fin cfg0.N) : Memref sig .tc .vmem S256x128 .f32 := win0_1.stage (cfg0.slots t 1)
abbrev ms0_2 (t : Fin cfg0.N) : Memref sig .tc .vmem S256x256 .f32 := win0_2.stage (cfg0.slots t 2)
abbrev ms0_3 (t : Fin cfg0.N) : Memref sig .tc .vmem S256x128 .f32 := win0_3.stage (cfg0.slots t 3)
abbrev ms0_4 (t : Fin cfg0.N) : Memref sig .tc .vmem S256x128 .f32 := win0_4.stage (cfg0.slots t 4)
abbrev ms0_5 (t : Fin cfg0.N) : Memref sig .tc .vmem S256x128 .f32 := win0_5.stage (cfg0.slots t 5)
abbrev ms0_6 (t : Fin cfg0.N) : Memref sig .tc .vmem S256x128 .f32 := win0_6.stage (cfg0.slots t 6)
abbrev ms0_7 (t : Fin cfg0.N) : Memref sig .tc .vmem S256x512 .bf16 := win0_7.stage (cfg0.slots t 7)
abbrev ms0_8 (t : Fin cfg0.N) : Memref sig .tc .vmem S256x512 .bf16 := win0_8.stage (cfg0.slots t 8)
abbrev ms0_9 (t : Fin cfg0.N) : Memref sig .tc .vmem S128x512 .bf16 := win0_9.stage (cfg0.slots t 9)
abbrev ms0_10 (t : Fin cfg0.N) : Memref sig .tc .vmem S128x512 .bf16 := win0_10.stage (cfg0.slots t 10)
abbrev ms0_11 (t : Fin cfg0.N) : Memref sig .tc .vmem S256x256 .f32 := win0_11.stage (cfg0.slots t 11)
abbrev scK : Memref sig .tc .vmem S4x256x128 .bf16 := Memref.whole cc0_scratch0
abbrev scV : Memref sig .tc .vmem S4x256x128 .bf16 := Memref.whole cc0_scratch1
abbrev scS : Memref sig .tc .vmem S256x256 .f32 := Memref.whole cc0_scratch2

theorem PhiA0_eq (c : Dev nD) :
    (Pipeline.ΦA spec0 c : sProp 𝕄) = iprop(((∃ d, owns (c : Thread nD τ) scK fullShare d) ∗ (∃ d, owns (c : Thread nD τ) scV fullShare d) ∗ (∃ d, owns (c : Thread nD τ) scS fullShare d)) ∗ (∃ r, prngReg c r)) := by
  unfold Pipeline.ΦA; rw [scopedRest0_eq]; simp only [scK, scV, scS, owns_whole]; try rfl

/-! ## The body obligation -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runM c (grid0.coords t) _ _ _ _ _ _ _ _ _ _ _ _ _ _ _ _ _ _ _ _ _ _ _ _ _ _ _ _ _ _ (cond1_true t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)
    (hQ' := fun _ h => h)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Mla

end
-- ==== Proof.MlaSpec.lean ====
module

public import Idealize.ShloMosaic.Lib.Pointwise
public import Idealize.ShloMosaic.Lib.Pipeline.ValueKit

@[expose] public section

set_option maxRecDepth 16384

noncomputable section

namespace Cert.Mla

open Idealize.ShloMosaic

/-- The word of 1/√96 the scores are scaled by. -/
abbrev sc : EReal := Ideal.ofBits FTy.f32 0x3DD105EC#32

/-- The word of −∞ a maximum starts from. -/
abbrev lo : EReal := Ideal.ofBits FTy.f32 0xFF800000#32

/-- One lane of a scaled query: two products of the token with weight columns, one times the cosine, one times the sine. -/
def qry (x w w' : Fin 256 → EReal) (c s : EReal) : EReal := ((∑ j, x j * w j) * c + (∑ j, x j * w' j) * s) * sc

/-- One lane of a key: a product of the token with a weight column, plus the rotated shared part. -/
def key (x w : Fin 128 → EReal) (a c b s : EReal) : EReal := (∑ j, x j * w j) + (a * c + b * s)

/-- The score of one query against one key at head `h`: 128 lanes of both. -/
def scr (x : Fin 256 → EReal) (w w' : Fin 256 → Fin 512 → EReal) (c s : Fin 128 → EReal) (y : Fin 128 → EReal) (wk : Fin 128 → Fin 512 → EReal) (kr : Fin 256 → EReal) (c' s' : Fin 128 → EReal) (h : Fin 4) : EReal :=
  ∑ d : Fin 128, qry x (fun j => w j ⟨128 * h.val + d.val, by omega⟩) (fun j => w' j ⟨128 * h.val + d.val, by omega⟩) (c d) (s d)
    * key y (fun j => wk j ⟨128 * h.val + d.val, by omega⟩) (kr ⟨d.val, by omega⟩) (c' d) (kr ⟨128 + d.val, by omega⟩) (s' d)

/-- The greatest of a row of 256 scores, taken in two halves of lanes. -/
def top (S : Fin 256 → EReal) : EReal :=
  Finset.univ.fold max lo fun l : Fin 128 => max (S (⟨l.val, by omega⟩)) (S ⟨128 + l.val, by omega⟩)

/-- One lane of a head's result as the kernel forms it: the weighted values summed, then divided by the sum of the weights. -/
def att (S V : Fin 256 → EReal) : EReal :=
  Ideal.div (∑ k, Ideal.exp (S k - top S) * V k)
    (∑ l : Fin 128, (Ideal.exp (S ⟨l.val, by omega⟩ - top S) + Ideal.exp (S ⟨128 + l.val, by omega⟩ - top S)))

end Cert.Mla

end
-- ==== Proof.MlaPure.lean ====
module

public import proofs.«01_k».proof.Proof.MlaRun
public import proofs.«01_k».proof.Proof.MlaSpec

@[expose] public section

set_option maxRecDepth 16384

noncomputable section

namespace Cert.KernelIdeal.Mla

open Idealize.ShloMosaic Idealize.ShloMosaic.TcCoe
open Cert.KernelIdeal Cert.KernelIdeal.Gen

theorem pay19_at (x0 : FVec Ideal S256x256 .bf16) (x7 x8 : FVec Ideal S256x512 .bf16) (x3 x4 : FVec Ideal S256x128 .f32) (K : FVec Ideal S1x256x128 .bf16) (r k : Fin 256) :
    k0_pay19 (F := Ideal) x0 x7 x8 x3 x4 K (ix2 r k)
      = ∑ d : Fin 128, Cert.Mla.qry (fun j => x0 (ix2 r j)) (fun j => x7 (ix2 j ⟨d.val, by omega⟩)) (fun j => x8 (ix2 j ⟨d.val, by omega⟩)) (x3 (ix2 r d)) (x4 (ix2 r d)) * K (ix3 0 k d) := by
  unfold Cert.Mla.qry
  pointwise [k0_pay19, k0_pay15, k0_pay14, k0_pay16, k0_pay17, k0_pay18]

theorem pay6_at (x1 : FVec Ideal S256x128 .f32) (x9 : FVec Ideal S128x512 .bf16) (x2 : FVec Ideal S256x256 .f32) (x5 x6 : FVec Ideal S256x128 .f32) (k : Fin 256) (d : Fin 128) :
    k0_pay6 (F := Ideal) x1 x9 x2 x5 x6 (ix3 0 k d)
      = Cert.Mla.key (fun j => x1 (ix2 k j)) (fun j => x9 (ix2 j ⟨d.val, by omega⟩)) (x2 (ix2 k ⟨d.val, by omega⟩)) (x5 (ix2 k d)) (x2 (ix2 k ⟨128 + d.val, by omega⟩)) (x6 (ix2 k d)) := by
  unfold Cert.Mla.key
  pointwise [k0_pay6, k0_pay5, k0_pay3, k0_pay2]

theorem pay7_at (x1 : FVec Ideal S256x128 .f32) (x10 : FVec Ideal S128x512 .bf16) (k : Fin 256) (u : Fin 128) :
    k0_pay7 (F := Ideal) x1 x10 (ix3 0 k u) = ∑ j, x1 (ix2 k j) * x10 (ix2 j ⟨u.val, by omega⟩) := by
  pointwise [k0_pay7, k0_pay4, k0_pay2]

theorem pay22_at (x0 : FVec Ideal S256x256 .bf16) (x7 x8 : FVec Ideal S256x512 .bf16) (x3 x4 : FVec Ideal S256x128 .f32) (K V : FVec Ideal S1x256x128 .bf16) (r : Fin 256) (u : Fin 64) :
    k0_pay22 (F := Ideal) (k0_pay21 (F := Ideal) x0 x7 x8 x3 x4 K) (k0_pay20 (F := Ideal) x0 x7 x8 x3 x4 K) V (ix2 r u)
      = Cert.Mla.att (fun k => k0_pay19 (F := Ideal) x0 x7 x8 x3 x4 K (ix2 r k)) (fun k => V (ix3 0 k ⟨u.val, by omega⟩)) := by
  unfold Cert.Mla.att Cert.Mla.top Cert.Mla.lo
  pointwise [k0_pay22, k0_pay21, k0_pay20]

theorem pay23_at (x0 : FVec Ideal S256x256 .bf16) (x7 x8 : FVec Ideal S256x512 .bf16) (x3 x4 : FVec Ideal S256x128 .f32) (K : FVec Ideal S1x256x128 .bf16) (r k : Fin 256) :
    k0_pay23 (F := Ideal) (k0_pay15 (F := Ideal) x0 x7) (k0_pay16 (F := Ideal) x0 x8) (k0_pay17 (F := Ideal) x3) (k0_pay18 (F := Ideal) x4) K (ix2 r k)
      = ∑ d : Fin 128, Cert.Mla.qry (fun j => x0 (ix2 r j)) (fun j => x7 (ix2 j ⟨128 + d.val, by omega⟩)) (fun j => x8 (ix2 j ⟨128 + d.val, by omega⟩)) (x3 (ix2 r d)) (x4 (ix2 r d)) * K (ix3 0 k d) := by
  unfold Cert.Mla.qry
  pointwise [k0_pay23, k0_pay15, k0_pay14, k0_pay16, k0_pay17, k0_pay18]

theorem pay8_at (x1 : FVec Ideal S256x128 .f32) (x9 : FVec Ideal S128x512 .bf16) (x2 : FVec Ideal S256x256 .f32) (x5 x6 : FVec Ideal S256x128 .f32) (k : Fin 256) (d : Fin 128) :
    k0_pay8 (F := Ideal) (k0_pay3 (F := Ideal) x1 x9) (k0_pay5 (F := Ideal) x2 x5 x6) (ix3 0 k d)
      = Cert.Mla.key (fun j => x1 (ix2 k j)) (fun j => x9 (ix2 j ⟨128 + d.val, by omega⟩)) (x2 (ix2 k ⟨d.val, by omega⟩)) (x5 (ix2 k d)) (x2 (ix2 k ⟨128 + d.val, by omega⟩)) (x6 (ix2 k d)) := by
  unfold Cert.Mla.key
  pointwise [k0_pay8, k0_pay5, k0_pay3, k0_pay2]

theorem pay9_at (x1 : FVec Ideal S256x128 .f32) (x10 : FVec Ideal S128x512 .bf16) (k : Fin 256) (u : Fin 128) :
    k0_pay9 (F := Ideal) (k0_pay4 (F := Ideal) x1 x10) (ix3 0 k u) = ∑ j, x1 (ix2 k j) * x10 (ix2 j ⟨128 + u.val, by omega⟩) := by
  pointwise [k0_pay9, k0_pay4, k0_pay2]

theorem pay28_at (x0 : FVec Ideal S256x256 .bf16) (x7 x8 : FVec Ideal S256x512 .bf16) (x3 x4 : FVec Ideal S256x128 .f32) (K : FVec Ideal S1x256x128 .bf16) (r k : Fin 256) :
    k0_pay28 (F := Ideal) (k0_pay15 (F := Ideal) x0 x7) (k0_pay16 (F := Ideal) x0 x8) (k0_pay17 (F := Ideal) x3) (k0_pay18 (F := Ideal) x4) K (ix2 r k)
      = ∑ d : Fin 128, Cert.Mla.qry (fun j => x0 (ix2 r j)) (fun j => x7 (ix2 j ⟨256 + d.val, by omega⟩)) (fun j => x8 (ix2 j ⟨256 + d.val, by omega⟩)) (x3 (ix2 r d)) (x4 (ix2 r d)) * K (ix3 0 k d) := by
  unfold Cert.Mla.qry
  pointwise [k0_pay28, k0_pay15, k0_pay14, k0_pay16, k0_pay17, k0_pay18]

theorem pay10_at (x1 : FVec Ideal S256x128 .f32) (x9 : FVec Ideal S128x512 .bf16) (x2 : FVec Ideal S256x256 .f32) (x5 x6 : FVec Ideal S256x128 .f32) (k : Fin 256) (d : Fin 128) :
    k0_pay10 (F := Ideal) (k0_pay3 (F := Ideal) x1 x9) (k0_pay5 (F := Ideal) x2 x5 x6) (ix3 0 k d)
      = Cert.Mla.key (fun j => x1 (ix2 k j)) (fun j => x9 (ix2 j ⟨256 + d.val, by omega⟩)) (x2 (ix2 k ⟨d.val, by omega⟩)) (x5 (ix2 k d)) (x2 (ix2 k ⟨128 + d.val, by omega⟩)) (x6 (ix2 k d)) := by
  unfold Cert.Mla.key
  pointwise [k0_pay10, k0_pay5, k0_pay3, k0_pay2]

theorem pay11_at (x1 : FVec Ideal S256x128 .f32) (x10 : FVec Ideal S128x512 .bf16) (k : Fin 256) (u : Fin 128) :
    k0_pay11 (F := Ideal) (k0_pay4 (F := Ideal) x1 x10) (ix3 0 k u) = ∑ j, x1 (ix2 k j) * x10 (ix2 j ⟨256 + u.val, by omega⟩) := by
  pointwise [k0_pay11, k0_pay4, k0_pay2]

theorem pay34_at (x0 : FVec Ideal S256x256 .bf16) (x7 x8 : FVec Ideal S256x512 .bf16) (x3 x4 : FVec Ideal S256x128 .f32) (K : FVec Ideal S1x256x128 .bf16) (r k : Fin 256) :
    k0_pay34 (F := Ideal) (k0_pay15 (F := Ideal) x0 x7) (k0_pay16 (F := Ideal) x0 x8) (k0_pay17 (F := Ideal) x3) (k0_pay18 (F := Ideal) x4) K (ix2 r k)
      = ∑ d : Fin 128, Cert.Mla.qry (fun j => x0 (ix2 r j)) (fun j => x7 (ix2 j ⟨384 + d.val, by omega⟩)) (fun j => x8 (ix2 j ⟨384 + d.val, by omega⟩)) (x3 (ix2 r d)) (x4 (ix2 r d)) * K (ix3 0 k d) := by
  unfold Cert.Mla.qry
  pointwise [k0_pay34, k0_pay15, k0_pay14, k0_pay16, k0_pay17, k0_pay18]

theorem pay12_at (x1 : FVec Ideal S256x128 .f32) (x9 : FVec Ideal S128x512 .bf16) (x2 : FVec Ideal S256x256 .f32) (x5 x6 : FVec Ideal S256x128 .f32) (k : Fin 256) (d : Fin 128) :
    k0_pay12 (F := Ideal) (k0_pay3 (F := Ideal) x1 x9) (k0_pay5 (F := Ideal) x2 x5 x6) (ix3 0 k d)
      = Cert.Mla.key (fun j => x1 (ix2 k j)) (fun j => x9 (ix2 j ⟨384 + d.val, by omega⟩)) (x2 (ix2 k ⟨d.val, by omega⟩)) (x5 (ix2 k d)) (x2 (ix2 k ⟨128 + d.val, by omega⟩)) (x6 (ix2 k d)) := by
  unfold Cert.Mla.key
  pointwise [k0_pay12, k0_pay5, k0_pay3, k0_pay2]

theorem pay13_at (x1 : FVec Ideal S256x128 .f32) (x10 : FVec Ideal S128x512 .bf16) (k : Fin 256) (u : Fin 128) :
    k0_pay13 (F := Ideal) (k0_pay4 (F := Ideal) x1 x10) (ix3 0 k u) = ∑ j, x1 (ix2 k j) * x10 (ix2 j ⟨384 + u.val, by omega⟩) := by
  pointwise [k0_pay13, k0_pay4, k0_pay2]

theorem pay27_at (q7 q10 : FVec Ideal S256x512 .f32) (q12 q14 : FVec Ideal S256x128 .f32) (K V : FVec Ideal S1x256x128 .bf16) (r : Fin 256) (u : Fin 64) :
    k0_pay27 (F := Ideal) (k0_pay25 (F := Ideal) q7 q10 q12 q14 K) (k0_pay26 (F := Ideal)) (Scalar.ofBits .f32 0x00000000#32) (k0_pay24 (F := Ideal) q7 q10 q12 q14 K) V (ix2 r u)
      = Cert.Mla.att (fun k => k0_pay23 (F := Ideal) q7 q10 q12 q14 K (ix2 r k)) (fun k => V (ix3 0 k ⟨u.val, by omega⟩)) := by
  unfold Cert.Mla.att Cert.Mla.top Cert.Mla.lo
  pointwise [k0_pay27, k0_pay25, k0_pay24, k0_pay26]

theorem pay33_at (q7 q10 : FVec Ideal S256x512 .f32) (q12 q14 : FVec Ideal S256x128 .f32) (K V : FVec Ideal S1x256x128 .bf16) (r : Fin 256) (u : Fin 64) :
    k0_pay33 (F := Ideal) (k0_pay30 (F := Ideal) q7 q10 q12 q14 K) (k0_pay31 (F := Ideal)) (k0_pay32 (F := Ideal)) (k0_pay29 (F := Ideal) q7 q10 q12 q14 K) V (ix2 r u)
      = Cert.Mla.att (fun k => k0_pay28 (F := Ideal) q7 q10 q12 q14 K (ix2 r k)) (fun k => V (ix3 0 k ⟨u.val, by omega⟩)) := by
  unfold Cert.Mla.att Cert.Mla.top Cert.Mla.lo
  pointwise [k0_pay33, k0_pay30, k0_pay29, k0_pay31, k0_pay32]

theorem pay1_at0 (a0 a1 a2 : FVec Ideal S256x64 .f32) (q7 q10 : FVec Ideal S256x512 .f32) (q12 q14 : FVec Ideal S256x128 .f32) (K V : FVec Ideal S1x256x128 .bf16) (r : Fin 256) (u : Fin 64) :
    k0_pay1 (F := Ideal) a0 a1 a2 (k0_pay36 (F := Ideal)) (k0_pay37 (F := Ideal)) (k0_pay38 (F := Ideal) q7 q10 q12 q14 K (k0_pay35 (F := Ideal) q7 q10 q12 q14 K)) V (ix2 r ⟨0 + u.val, by omega⟩) = a0 (ix2 r u) := by
  pointwise [k0_pay1, k0_pay38, k0_pay35, k0_pay36, k0_pay37]

theorem pay1_at1 (a0 a1 a2 : FVec Ideal S256x64 .f32) (q7 q10 : FVec Ideal S256x512 .f32) (q12 q14 : FVec Ideal S256x128 .f32) (K V : FVec Ideal S1x256x128 .bf16) (r : Fin 256) (u : Fin 64) :
    k0_pay1 (F := Ideal) a0 a1 a2 (k0_pay36 (F := Ideal)) (k0_pay37 (F := Ideal)) (k0_pay38 (F := Ideal) q7 q10 q12 q14 K (k0_pay35 (F := Ideal) q7 q10 q12 q14 K)) V (ix2 r ⟨64 + u.val, by omega⟩) = a1 (ix2 r u) := by
  pointwise [k0_pay1, k0_pay38, k0_pay35, k0_pay36, k0_pay37]

theorem pay1_at2 (a0 a1 a2 : FVec Ideal S256x64 .f32) (q7 q10 : FVec Ideal S256x512 .f32) (q12 q14 : FVec Ideal S256x128 .f32) (K V : FVec Ideal S1x256x128 .bf16) (r : Fin 256) (u : Fin 64) :
    k0_pay1 (F := Ideal) a0 a1 a2 (k0_pay36 (F := Ideal)) (k0_pay37 (F := Ideal)) (k0_pay38 (F := Ideal) q7 q10 q12 q14 K (k0_pay35 (F := Ideal) q7 q10 q12 q14 K)) V (ix2 r ⟨128 + u.val, by omega⟩) = a2 (ix2 r u) := by
  pointwise [k0_pay1, k0_pay38, k0_pay35, k0_pay36, k0_pay37]
  rw [dif_neg (by omega), dif_neg (by omega), dif_pos (by omega)]
  exact congrArg (fun v => a2 (ix2 r v)) (Fin.ext (by show 128 + u.val - 64 - 64 = u.val; omega))

theorem pay1_at3 (a0 a1 a2 : FVec Ideal S256x64 .f32) (q7 q10 : FVec Ideal S256x512 .f32) (q12 q14 : FVec Ideal S256x128 .f32) (K V : FVec Ideal S1x256x128 .bf16) (r : Fin 256) (u : Fin 64) :
    k0_pay1 (F := Ideal) a0 a1 a2 (k0_pay36 (F := Ideal)) (k0_pay37 (F := Ideal)) (k0_pay38 (F := Ideal) q7 q10 q12 q14 K (k0_pay35 (F := Ideal) q7 q10 q12 q14 K)) V (ix2 r ⟨192 + u.val, by omega⟩) = Cert.Mla.att (fun k => k0_pay34 (F := Ideal) q7 q10 q12 q14 K (ix2 r k)) (fun k => V (ix3 0 k ⟨u.val, by omega⟩)) := by
  unfold Cert.Mla.att Cert.Mla.top Cert.Mla.lo
  pointwise [k0_pay1, k0_pay38, k0_pay35, k0_pay36, k0_pay37]
  rw [dif_neg (by omega), dif_neg (by omega), dif_neg (by omega)]
  simp only [show 192 + u.val - 64 - 64 - 64 = u.val by omega]

theorem mlaRes_at0 (x0 : FVec Ideal S256x256 .bf16) (x1 : FVec Ideal S256x128 .f32) (x2 : FVec Ideal S256x256 .f32) (x3 x4 x5 x6 : FVec Ideal S256x128 .f32) (x7 x8 : FVec Ideal S256x512 .bf16) (x9 x10 : FVec Ideal S128x512 .bf16) (r : Fin 256) (u : Fin 64) :
    mlaRes (F := Ideal) x0 x1 x2 x3 x4 x5 x6 x7 x8 x9 x10 (ix2 r ⟨0 + u.val, by omega⟩)
      = Cert.Mla.att (fun k => Cert.Mla.scr (fun j => x0 (ix2 r j)) (fun j n => x7 (ix2 j n)) (fun j n => x8 (ix2 j n)) (fun d => x3 (ix2 r d)) (fun d => x4 (ix2 r d)) (fun j => x1 (ix2 k j)) (fun j n => x9 (ix2 j n)) (fun d => x2 (ix2 k d)) (fun d => x5 (ix2 k d)) (fun d => x6 (ix2 k d)) 0) (fun k => ∑ j, x1 (ix2 k j) * x10 (ix2 j ⟨0 + u.val, by omega⟩)) := by
  unfold mlaRes Cert.Mla.scr
  rw [pay1_at0]
  simp only [pay22_at, pay19_at, pay6_at, pay7_at]
  simp only [Fin.val_zero, Nat.mul_zero, Nat.zero_add]

theorem mlaRes_at1 (x0 : FVec Ideal S256x256 .bf16) (x1 : FVec Ideal S256x128 .f32) (x2 : FVec Ideal S256x256 .f32) (x3 x4 x5 x6 : FVec Ideal S256x128 .f32) (x7 x8 : FVec Ideal S256x512 .bf16) (x9 x10 : FVec Ideal S128x512 .bf16) (r : Fin 256) (u : Fin 64) :
    mlaRes (F := Ideal) x0 x1 x2 x3 x4 x5 x6 x7 x8 x9 x10 (ix2 r ⟨64 + u.val, by omega⟩)
      = Cert.Mla.att (fun k => Cert.Mla.scr (fun j => x0 (ix2 r j)) (fun j n => x7 (ix2 j n)) (fun j n => x8 (ix2 j n)) (fun d => x3 (ix2 r d)) (fun d => x4 (ix2 r d)) (fun j => x1 (ix2 k j)) (fun j n => x9 (ix2 j n)) (fun d => x2 (ix2 k d)) (fun d => x5 (ix2 k d)) (fun d => x6 (ix2 k d)) 1) (fun k => ∑ j, x1 (ix2 k j) * x10 (ix2 j ⟨128 + u.val, by omega⟩)) := by
  unfold mlaRes Cert.Mla.scr
  rw [pay1_at1]
  simp only [pay27_at, pay23_at, pay8_at, pay9_at]
  rfl

theorem mlaRes_at2 (x0 : FVec Ideal S256x256 .bf16) (x1 : FVec Ideal S256x128 .f32) (x2 : FVec Ideal S256x256 .f32) (x3 x4 x5 x6 : FVec Ideal S256x128 .f32) (x7 x8 : FVec Ideal S256x512 .bf16) (x9 x10 : FVec Ideal S128x512 .bf16) (r : Fin 256) (u : Fin 64) :
    mlaRes (F := Ideal) x0 x1 x2 x3 x4 x5 x6 x7 x8 x9 x10 (ix2 r ⟨128 + u.val, by omega⟩)
      = Cert.Mla.att (fun k => Cert.Mla.scr (fun j => x0 (ix2 r j)) (fun j n => x7 (ix2 j n)) (fun j n => x8 (ix2 j n)) (fun d => x3 (ix2 r d)) (fun d => x4 (ix2 r d)) (fun j => x1 (ix2 k j)) (fun j n => x9 (ix2 j n)) (fun d => x2 (ix2 k d)) (fun d => x5 (ix2 k d)) (fun d => x6 (ix2 k d)) 2) (fun k => ∑ j, x1 (ix2 k j) * x10 (ix2 j ⟨256 + u.val, by omega⟩)) := by
  unfold mlaRes Cert.Mla.scr
  rw [pay1_at2]
  simp only [pay33_at, pay28_at, pay10_at, pay11_at]
  rfl

theorem mlaRes_at3 (x0 : FVec Ideal S256x256 .bf16) (x1 : FVec Ideal S256x128 .f32) (x2 : FVec Ideal S256x256 .f32) (x3 x4 x5 x6 : FVec Ideal S256x128 .f32) (x7 x8 : FVec Ideal S256x512 .bf16) (x9 x10 : FVec Ideal S128x512 .bf16) (r : Fin 256) (u : Fin 64) :
    mlaRes (F := Ideal) x0 x1 x2 x3 x4 x5 x6 x7 x8 x9 x10 (ix2 r ⟨192 + u.val, by omega⟩)
      = Cert.Mla.att (fun k => Cert.Mla.scr (fun j => x0 (ix2 r j)) (fun j n => x7 (ix2 j n)) (fun j n => x8 (ix2 j n)) (fun d => x3 (ix2 r d)) (fun d => x4 (ix2 r d)) (fun j => x1 (ix2 k j)) (fun j n => x9 (ix2 j n)) (fun d => x2 (ix2 k d)) (fun d => x5 (ix2 k d)) (fun d => x6 (ix2 k d)) 3) (fun k => ∑ j, x1 (ix2 k j) * x10 (ix2 j ⟨384 + u.val, by omega⟩)) := by
  unfold mlaRes Cert.Mla.scr
  rw [pay1_at3]
  simp only [pay34_at, pay12_at, pay13_at]
  rfl

theorem mlaRes_at (x0 : FVec Ideal S256x256 .bf16) (x1 : FVec Ideal S256x128 .f32) (x2 : FVec Ideal S256x256 .f32) (x3 x4 x5 x6 : FVec Ideal S256x128 .f32) (x7 x8 : FVec Ideal S256x512 .bf16) (x9 x10 : FVec Ideal S128x512 .bf16) (r : Fin 256) (h : Fin 4) (u : Fin 64) :
    mlaRes (F := Ideal) x0 x1 x2 x3 x4 x5 x6 x7 x8 x9 x10 (ix2 r ⟨64 * h.val + u.val, by omega⟩)
      = Cert.Mla.att (fun k => Cert.Mla.scr (fun j => x0 (ix2 r j)) (fun j n => x7 (ix2 j n)) (fun j n => x8 (ix2 j n)) (fun d => x3 (ix2 r d)) (fun d => x4 (ix2 r d)) (fun j => x1 (ix2 k j)) (fun j n => x9 (ix2 j n)) (fun d => x2 (ix2 k d)) (fun d => x5 (ix2 k d)) (fun d => x6 (ix2 k d)) h) (fun k => ∑ j, x1 (ix2 k j) * x10 (ix2 j ⟨128 * h.val + u.val, by omega⟩)) := by
  match h with
  | 0 => exact mlaRes_at0 x0 x1 x2 x3 x4 x5 x6 x7 x8 x9 x10 r u
  | 1 => exact mlaRes_at1 x0 x1 x2 x3 x4 x5 x6 x7 x8 x9 x10 r u
  | 2 => exact mlaRes_at2 x0 x1 x2 x3 x4 x5 x6 x7 x8 x9 x10 r u
  | 3 => exact mlaRes_at3 x0 x1 x2 x3 x4 x5 x6 x7 x8 x9 x10 r u

end Cert.KernelIdeal.Mla
end
-- ==== Proof.MlaMath.lean ====
module

public import proofs.«01_k».proof.Proof.MlaSpec

@[expose] public section

set_option maxRecDepth 16384

noncomputable section

namespace Cert.Mla

open Idealize.ShloMosaic

/-! ## Real numbers among the extended ones -/

/-- The value is a real number. -/
def Rl (x : EReal) : Prop := ∃ r : ℝ, x = (r : EReal)

theorem Rl.mul {x y : EReal} (hx : Rl x) (hy : Rl y) : Rl (x * y) := by
  obtain ⟨a, rfl⟩ := hx; obtain ⟨b, rfl⟩ := hy
  exact ⟨a * b, (EReal.coe_mul a b).symm⟩

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Rl.sum {ι : Type*} (s : Finset ι) {f : ι → EReal} (h : ∀ i, Rl (f i)) : Rl (∑ i ∈ s, f i) := by
  choose g hg using h
  exact ⟨∑ i ∈ s, g i, by rw [← sum_coe]; exact Finset.sum_congr rfl fun i _ => hg i⟩

theorem Rl.of_ne {x : EReal} (h : x ≠ ⊥) (h' : x ≠ ⊤) : Rl x := ⟨x.toReal, (EReal.coe_toReal h' h).symm⟩

/-- The word of one. -/
theorem one_eq : Ideal.ofBits .f32 0x3F800000#32 = 1 := by
  rw [show (1 : EReal) = ((1 : ℝ) : EReal) by norm_cast]
  simp [Ideal.ofBits, Ideal.ieee, -EReal.coe_mul]
  norm_num

/-- A number below infinity in absolute value is real. -/
theorem Rl.of_lt {x : EReal} (h : Ideal.cmp .olt (max x (-x)) (Ideal.ofBits .f32 0x7F800000#32) = 1#1) : Rl x := by
  have e : Ideal.ofBits .f32 0x7F800000#32 = ⊤ := by simp [Ideal.ofBits, Ideal.ieee]
  rw [e] at h
  refine Rl.of_ne ?_ ?_
  · rintro rfl
    simp [Ideal.cmp] at h
  · rintro rfl
    simp [Ideal.cmp] at h

theorem Rl.ne_bot {x : EReal} (h : Rl x) : x ≠ ⊥ := by obtain ⟨a, rfl⟩ := h; exact EReal.coe_ne_bot a
theorem Rl.ne_top {x : EReal} (h : Rl x) : x ≠ ⊤ := by obtain ⟨a, rfl⟩ := h; exact EReal.coe_ne_top a

/-- A real factor that is not negative goes through a sum. -/
theorem sum_mul_real {ι : Type*} (s : Finset ι) (f : ι → EReal) (c : EReal) (h : 0 ≤ c) (h' : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h h', ih]

theorem lo_eq : lo = ⊥ := by simp [lo, Ideal.ofBits, Ideal.ieee]

theorem sc_real : ∃ r : ℝ, 0 ≤ r ∧ sc = (r : EReal) := by
  refine ⟨(2 ^ 23 + 5309932 : ℕ) * (2 : ℝ) ^ (-27 : ℤ), by positivity, ?_⟩
  simp [sc, Ideal.ofBits, Ideal.ieee, -EReal.coe_mul]

theorem sc_nonneg : 0 ≤ sc := by obtain ⟨r, h, e⟩ := sc_real; rw [e]; exact EReal.coe_nonneg.mpr h
theorem sc_rl : Rl sc := by obtain ⟨r, h, e⟩ := sc_real; exact ⟨r, e⟩

/-! ## Sums in parts -/

theorem sum_128 (f : Fin 128 → EReal) : ∑ d, f d = (∑ d : Fin 64, f ⟨d.val, by omega⟩) + (∑ d : Fin 32, f ⟨64 + d.val, by omega⟩) + ∑ d : Fin 32, f ⟨96 + d.val, by omega⟩ :=
  (Fin.sum_univ_add (a := 96) (b := 32) f).trans (congrArg (· + _) (Fin.sum_univ_add (a := 64) (b := 32) fun d => f (Fin.castAdd 32 d)))

theorem sum_96 (f : Fin 96 → EReal) : ∑ d, f d = (∑ d : Fin 64, f ⟨d.val, by omega⟩) + ∑ d : Fin 32, f ⟨64 + d.val, by omega⟩ :=
  Fin.sum_univ_add (a := 64) (b := 32) f

theorem sum_256 (f : Fin 256 → EReal) : ∑ d, f d = ∑ l : Fin 128, (f ⟨l.val, by omega⟩ + f ⟨128 + l.val, by omega⟩) :=
  (Fin.sum_univ_add (a := 128) (b := 128) f).trans (Finset.sum_add_distrib (s := Finset.univ) (f := fun l : Fin 128 => f ⟨l.val, by omega⟩) (g := fun l : Fin 128 => f ⟨128 + l.val, by omega⟩)).symm

/-! ## The score -/

/-- The lanes past the ninety-sixth meet zero cosines and sines, the lanes past the sixty-fourth a zero key weight: the
    padded score is the product over the 96 real lanes, scaled. -/
theorem scr_eq (x : Fin 256 → EReal) (w w' : Fin 256 → Fin 512 → EReal) (c s : Fin 128 → EReal) (y : Fin 128 → EReal) (wk : Fin 128 → Fin 512 → EReal) (kr : Fin 256 → EReal) (c' s' : Fin 128 → EReal) (h : Fin 4)
    (q k : Fin 96 → EReal)
    (hq : ∀ d : Fin 96, ∑ j, x j * w j ⟨128 * h.val + d.val, by omega⟩ = q d)
    (hkn : ∀ d : Fin 64, ∑ j, y j * wk j ⟨128 * h.val + d.val, by omega⟩ = k ⟨d.val, by omega⟩)
    (hkz : ∀ (j : Fin 128) (d : Fin 32), wk j ⟨128 * h.val + (64 + d.val), by omega⟩ = 0)
    (hkr : ∀ d : Fin 32, kr ⟨64 + d.val, by omega⟩ = k ⟨64 + d.val, by omega⟩)
    (hrz : ∀ d : Fin 64, kr ⟨d.val, by omega⟩ = 0)
    (hc : ∀ d : Fin 96, c ⟨d.val, by omega⟩ = 1) (hc0 : ∀ d : Fin 32, c ⟨96 + d.val, by omega⟩ = 0) (hs : ∀ d, s d = 0)
    (hc' : ∀ d : Fin 96, c' ⟨d.val, by omega⟩ = 1) (hs' : ∀ d, s' d = 0) :
    scr x w w' c s y wk kr c' s' h = (∑ d, q d * k d) * sc := by
  unfold scr
  rw [sum_mul_real _ _ _ sc_nonneg sc_rl.ne_top, sum_128, sum_96]
  have h3 : (∑ d : Fin 32, qry x (fun j => w j ⟨128 * h.val + (96 + d.val), by omega⟩) (fun j => w' j ⟨128 * h.val + (96 + d.val), by omega⟩) (c ⟨96 + d.val, by omega⟩) (s ⟨96 + d.val, by omega⟩)
      * key y (fun j => wk j ⟨128 * h.val + (96 + d.val), by omega⟩) (kr ⟨96 + d.val, by omega⟩) (c' ⟨96 + d.val, by omega⟩) (kr ⟨128 + (96 + d.val), by omega⟩) (s' ⟨96 + d.val, by omega⟩)) = 0 := by
    refine Finset.sum_eq_zero fun d _ => ?_
    unfold qry
    rw [hc0 d, hs, mul_zero, mul_zero, add_zero, zero_mul, zero_mul]
  refine Eq.trans (congrArg (_ + ·) h3) ?_
  rw [add_zero]
  refine congrArg₂ (· + ·) (Finset.sum_congr rfl fun d _ => ?_) (Finset.sum_congr rfl fun d _ => ?_)
  · show qry x (fun j => w j ⟨128 * h.val + d.val, by omega⟩) (fun j => w' j ⟨128 * h.val + d.val, by omega⟩) (c ⟨d.val, by omega⟩) (s ⟨d.val, by omega⟩)
      * key y (fun j => wk j ⟨128 * h.val + d.val, by omega⟩) (kr ⟨d.val, by omega⟩) (c' ⟨d.val, by omega⟩) (kr ⟨128 + d.val, by omega⟩) (s' ⟨d.val, by omega⟩) = _
    unfold qry key
    rw [hc ⟨d.val, by omega⟩, hc' ⟨d.val, by omega⟩, hs, hs', hrz d, mul_zero, mul_zero, mul_one, add_zero, zero_mul, add_zero, add_zero, hkn d, hq ⟨d.val, by omega⟩]
    exact mul_right_comm _ _ _
  · show qry x (fun j => w j ⟨128 * h.val + (64 + d.val), by omega⟩) (fun j => w' j ⟨128 * h.val + (64 + d.val), by omega⟩) (c ⟨64 + d.val, by omega⟩) (s ⟨64 + d.val, by omega⟩)
      * key y (fun j => wk j ⟨128 * h.val + (64 + d.val), by omega⟩) (kr ⟨64 + d.val, by omega⟩) (c' ⟨64 + d.val, by omega⟩) (kr ⟨128 + (64 + d.val), by omega⟩) (s' ⟨64 + d.val, by omega⟩) = _
    unfold qry key
    rw [hc ⟨64 + d.val, by omega⟩, hc' ⟨64 + d.val, by omega⟩, hs, hs', hkr d, mul_zero, mul_zero, mul_one, mul_one, add_zero, add_zero, hq ⟨64 + d.val, by omega⟩,
      Finset.sum_eq_zero (fun j _ => (congrArg (y j * ·) (hkz j d)).trans (mul_zero _)), zero_add]
    exact mul_right_comm _ _ _

/-! ## The softmax -/

/-- The greatest of a row of scores. -/
def mx (S : Fin 256 → EReal) : EReal := Finset.univ.fold max lo S

theorem top_eq (S : Fin 256 → EReal) : top S = mx S := by
  unfold top mx
  apply le_antisymm
  · rw [Finset.fold_max_le]
    refine ⟨(Finset.le_fold_max _).mpr (Or.inl le_rfl), fun l _ => max_le ?_ ?_⟩
    · exact (Finset.le_fold_max _).mpr (Or.inr ⟨_, Finset.mem_univ _, le_rfl⟩)
    · exact (Finset.le_fold_max _).mpr (Or.inr ⟨_, Finset.mem_univ _, le_rfl⟩)
  · rw [Finset.fold_max_le]
    refine ⟨(Finset.le_fold_max _).mpr (Or.inl le_rfl), fun k _ => ?_⟩
    refine (Finset.le_fold_max _).mpr (Or.inr ?_)
    by_cases hk : k.val < 128
    · exact ⟨⟨k.val, hk⟩, Finset.mem_univ _, le_max_left _ _⟩
    · refine ⟨⟨k.val - 128, by omega⟩, Finset.mem_univ _, le_max_of_le_right (le_of_eq (congrArg S (Fin.ext ?_)))⟩
      show k.val = 128 + (k.val - 128)
      omega

theorem max_lo (x : EReal) : max lo x = x := by rw [lo_eq]; exact max_eq_right bot_le

theorem mx_rl {S : Fin 256 → EReal} (h : ∀ k, Rl (S k)) : Rl (mx S) := by
  refine Rl.of_ne (fun e => ?_) (fun e => ?_)
  · have : S 0 ≤ mx S := (Finset.le_fold_max _).mpr (Or.inr ⟨_, Finset.mem_univ _, le_rfl⟩)
    rw [e] at this
    exact (h 0).ne_bot (le_bot_iff.mp this)
  · have : mx S < ⊤ := by
      unfold mx
      rw [Finset.fold_max_lt, lo_eq]
      exact ⟨bot_lt_top, fun k _ => lt_top_iff_ne_top.mpr (h k).ne_top⟩
    exact this.ne e

/-- One lane of a head's result with each weight divided first. -/
def attR (S V : Fin 256 → EReal) : EReal :=
  ∑ k, V k * Ideal.div (Ideal.exp (S k - max lo (mx S))) (∑ k, Ideal.exp (S k - max lo (mx S)))

/-- With real scores the exponentials are real and positive, so is their sum, and dividing by it is multiplying by a real
    number: it goes through the sum over the keys. -/
theorem att_eq (S V : Fin 256 → EReal) (h : ∀ k, Rl (S k)) : att S V = attR S V := by
  obtain ⟨m, hm⟩ := mx_rl h
  choose s hs using h
  unfold att attR
  rw [top_eq, max_lo, hm, ← sum_256 fun k => Ideal.exp (S k - (m : EReal))]
  have he : ∀ k, Ideal.exp (S k - (m : EReal)) = ((Real.exp (s k - m) : ℝ) : EReal) := fun k => by
    rw [hs k, ← EReal.coe_sub, Ideal.exp_coe]
  simp only [he]
  rw [sum_coe]
  have hp : 0 < ∑ k : Fin 256, Real.exp (s k - m) := Finset.sum_pos (fun k _ => Real.exp_pos _) ⟨0, Finset.mem_univ _⟩
  simp only [Ideal.div_coe hp.ne']
  rw [sum_mul_real _ _ _ (EReal.coe_nonneg.mpr (one_div_pos.mpr hp).le) (EReal.coe_ne_top _)]
  refine Finset.sum_congr rfl fun k _ => ?_
  rw [mul_comm (_ : EReal) (V k), mul_assoc]

end Cert.Mla

end
-- ==== Proof.MlaRef.lean ====
module

public import proofs.«01_k».proof.Proof.Gen.ReferenceIdeal.Run
public import proofs.«01_k».proof.Proof.MlaMath

@[expose] public section

set_option maxRecDepth 16384

noncomputable section

namespace Cert.ReferenceIdeal.Mla

open Idealize.ShloMosaic Idealize.ShloMosaic.TcCoe Idealize.SL.Sem
open Cert.ReferenceIdeal Cert.ReferenceIdeal.Gen

/-- The queries. -/
def refQ (A0 : FVec Ideal S32x256x256 .f32) (A3 : FVec Ideal S256x4x96 .f32) : FVec Ideal S32x256x4x96 .f32 :=
  Host.dotGeneral dot_S32x256x256_S256x4x96_S32x256x4x96_2_0_01_12_n_n none A0 A3

/-- The keys: 64 lanes of each head's own and 32 shared lanes. -/
def refK (A1 : FVec Ideal S32x256x128 .f32) (A2 : FVec Ideal S32x256x32 .f32) (A4 : FVec Ideal S128x4x64 .f32) : FVec Ideal S32x256x4x96 .f32 :=
  concatenate S32x256x4x96 3 [⟨S32x256x4x64, (Host.dotGeneral dot_S32x256x128_S128x4x64_S32x256x4x64_2_0_01_12_n_n none A1 A4)⟩, ⟨S32x256x4x32, (broadcastInDim S32x256x4x32 ![0, 1, 2, 3] bcast_S32x256x1x32_S32x256x4x32_0_1_2_3 (broadcastInDim S32x256x1x32 ![0, 1, 3] bcast_S32x256x32_S32x256x1x32_0_1_3 A2))⟩] concatenates_S32x256x4x64_S32x256x4x32_S32x256x4x96_d3

/-- The values. -/
def refV (A1 : FVec Ideal S32x256x128 .f32) (A5 : FVec Ideal S128x4x64 .f32) : FVec Ideal S32x256x4x64 .f32 :=
  Host.dotGeneral dot_S32x256x128_S128x4x64_S32x256x4x64_2_0_01_12_n_n none A1 A5

/-- The scaled scores. -/
def refS (QQ KK : FVec Ideal S32x256x4x96 .f32) : FVec Ideal S32x4x256x256 .f32 :=
  mulf (Host.dotGeneral dot_S32x256x4x96_S32x256x4x96_S32x4x256x256_3_3_1_1_02_02 none QQ KK) (broadcastInDim S32x4x256x256 ![] bcast_S_S32x4x256x256 (constant S_ .f32 0x3DD105EC#32))

/-- Each row's greatest score. -/
def refG (SS : FVec Ideal S32x4x256x256 .f32) : FVec Ideal S32x4x256 .f32 :=
  Host.reduce FloatOps.maximumf SS (constant S_ .f32 0xFF800000#32) reducesTo_S32x4x256x256_S32x4x256_d3 h_S_

/-- The exponentials of the scores below their row's greatest. -/
def refE (SS : FVec Ideal S32x4x256x256 .f32) (GG : FVec Ideal S32x4x256 .f32) : FVec Ideal S32x4x256x256 .f32 :=
  Host.exp (subf SS (broadcastInDim S32x4x256x256 ![0, 1, 2, 3] bcast_S32x4x256x1_S32x4x256x256_0_1_2_3 (broadcastInDim S32x4x256x1 ![0, 1, 2] bcast_S32x4x256_S32x4x256x1_0_1_2 (maximumf (broadcastInDim S32x4x256 ![] bcast_S_S32x4x256 (constant S_ .f32 0xFF800000#32)) GG))))

/-- The row sums. -/
def refL (EE : FVec Ideal S32x4x256x256 .f32) : FVec Ideal S32x4x256 .f32 :=
  Host.reduceAdd EE (constant S_ .f32 0x00000000#32) reducesTo_S32x4x256x256_S32x4x256_d3 h_S_

/-- The weights. -/
def refP (EE : FVec Ideal S32x4x256x256 .f32) (LL : FVec Ideal S32x4x256 .f32) : FVec Ideal S32x4x256x256 .f32 :=
  Host.divf EE (broadcastInDim S32x4x256x256 ![0, 1, 2, 3] bcast_S32x4x256x1_S32x4x256x256_0_1_2_3 (broadcastInDim S32x4x256x1 ![0, 1, 2] bcast_S32x4x256_S32x4x256x1_0_1_2 LL))

/-- The weighted values in the result's order. -/
def refR (VV : FVec Ideal S32x256x4x64 .f32) (PP : FVec Ideal S32x4x256x256 .f32) : FVec Ideal S8192x256 .f32 :=
  shapeCast _ (shapeCast _ (transpose S32x256x4x64 [0, 3, 1, 2] (Host.dotGeneral dot_S32x256x4x64_S32x4x256x256_S32x4x64x256_1_3_3_2_02_01 none VV PP) transposes_S32x4x64x256_S32x256x4x64_0_3_1_2) shapeCasts_S32x256x4x64_S32x256x256) shapeCasts_S32x256x256_S8192x256

/-- The weights of the scores. -/
def refW (SS : FVec Ideal S32x4x256x256 .f32) : FVec Ideal S32x4x256x256 .f32 :=
  refP (refE SS (refG SS)) (refL (refE SS (refG SS)))

/-- The whole of the reference. -/
def refAll (A0 : FVec Ideal S32x256x256 .f32) (A1 : FVec Ideal S32x256x128 .f32) (A2 : FVec Ideal S32x256x32 .f32) (A3 : FVec Ideal S256x4x96 .f32) (A4 A5 : FVec Ideal S128x4x64 .f32) : FVec Ideal S8192x256 .f32 :=
  refR (refV A1 A5) (refW (refS (refQ A0 A3) (refK A1 A2 A4)))

theorem refQ_at (A0 : FVec Ideal S32x256x256 .f32) (A3 : FVec Ideal S256x4x96 .f32) (b : Fin 32) (r : Fin 256) (h : Fin 4) (d : Fin 96) :
    refQ A0 A3 (ix4 b r h d) = ∑ j, A0 (ix3 b r j) * A3 (ix3 j h d) := by
  pointwise [refQ]

theorem refK_lo (A1 : FVec Ideal S32x256x128 .f32) (A2 : FVec Ideal S32x256x32 .f32) (A4 : FVec Ideal S128x4x64 .f32) (b : Fin 32) (k : Fin 256) (h : Fin 4) (d : Fin 64) :
    refK A1 A2 A4 (ix4 b k h ⟨d.val, by omega⟩) = ∑ j, A1 (ix3 b k j) * A4 (ix3 j h d) := by
  pointwise [refK]

theorem refK_hi (A1 : FVec Ideal S32x256x128 .f32) (A2 : FVec Ideal S32x256x32 .f32) (A4 : FVec Ideal S128x4x64 .f32) (b : Fin 32) (k : Fin 256) (h : Fin 4) (d : Fin 32) :
    refK A1 A2 A4 (ix4 b k h ⟨64 + d.val, by omega⟩) = A2 (ix3 b k d) := by
  pointwise [refK]

theorem refV_at (A1 : FVec Ideal S32x256x128 .f32) (A5 : FVec Ideal S128x4x64 .f32) (b : Fin 32) (k : Fin 256) (h : Fin 4) (u : Fin 64) :
    refV A1 A5 (ix4 b k h u) = ∑ j, A1 (ix3 b k j) * A5 (ix3 j h u) := by
  pointwise [refV]

theorem refS_at (QQ KK : FVec Ideal S32x256x4x96 .f32) (b : Fin 32) (h : Fin 4) (r k : Fin 256) :
    refS QQ KK (ix4 b h r k) = (∑ d, QQ (ix4 b r h d) * KK (ix4 b k h d)) * Cert.Mla.sc := by
  unfold Cert.Mla.sc
  pointwise [refS]

theorem refG_at (SS : FVec Ideal S32x4x256x256 .f32) (b : Fin 32) (h : Fin 4) (r : Fin 256) :
    refG SS (ix3 b h r) = Finset.univ.fold max Cert.Mla.lo fun k => SS (ix4 b h r k) := by
  unfold Cert.Mla.lo
  pointwise [refG]

theorem refE_at (SS : FVec Ideal S32x4x256x256 .f32) (GG : FVec Ideal S32x4x256 .f32) (b : Fin 32) (h : Fin 4) (r k : Fin 256) :
    refE SS GG (ix4 b h r k) = Ideal.exp (SS (ix4 b h r k) - max Cert.Mla.lo (GG (ix3 b h r))) := by
  unfold Cert.Mla.lo
  pointwise [refE]

theorem refL_at (EE : FVec Ideal S32x4x256x256 .f32) (b : Fin 32) (h : Fin 4) (r : Fin 256) :
    refL EE (ix3 b h r) = ∑ k, EE (ix4 b h r k) := by
  pointwise [refL]

theorem refP_at (EE : FVec Ideal S32x4x256x256 .f32) (LL : FVec Ideal S32x4x256 .f32) (b : Fin 32) (h : Fin 4) (r k : Fin 256) :
    refP EE LL (ix4 b h r k) = Ideal.div (EE (ix4 b h r k)) (LL (ix3 b h r)) := by
  pointwise [refP]

theorem refR_at (VV : FVec Ideal S32x256x4x64 .f32) (PP : FVec Ideal S32x4x256x256 .f32) (b : Fin 32) (r : Fin 256) (h : Fin 4) (u : Fin 64) :
    refR VV PP (ix2 ⟨256 * b.val + r.val, by omega⟩ ⟨64 * h.val + u.val, by omega⟩) = ∑ k, VV (ix4 b k h u) * PP (ix4 b h r k) := by
  pointwise [refR]

theorem refAll_at (A0 : FVec Ideal S32x256x256 .f32) (A1 : FVec Ideal S32x256x128 .f32) (A2 : FVec Ideal S32x256x32 .f32) (A3 : FVec Ideal S256x4x96 .f32) (A4 A5 : FVec Ideal S128x4x64 .f32) (b : Fin 32) (r : Fin 256) (h : Fin 4) (u : Fin 64) :
    refAll A0 A1 A2 A3 A4 A5 (ix2 ⟨256 * b.val + r.val, by omega⟩ ⟨64 * h.val + u.val, by omega⟩)
      = Cert.Mla.attR (fun k => (∑ d, refQ A0 A3 (ix4 b r h d) * refK A1 A2 A4 (ix4 b k h d)) * Cert.Mla.sc) (fun k => ∑ j, A1 (ix3 b k j) * A5 (ix3 j h u)) := by
  unfold refAll refW Cert.Mla.attR Cert.Mla.mx
  simp only [refR_at, refP_at, refL_at, refE_at, refG_at, refS_at, refV_at]

/-- The scores are real when the queries and keys are. -/
theorem refQ_rl (A0 : FVec Ideal S32x256x256 .f32) (A3 : FVec Ideal S256x4x96 .f32) (h0 : ∀ i, Cert.Mla.Rl (A0 i)) (h3 : ∀ i, Cert.Mla.Rl (A3 i)) (b : Fin 32) (r : Fin 256) (h : Fin 4) (d : Fin 96) :
    Cert.Mla.Rl (refQ A0 A3 (ix4 b r h d)) := by
  rw [refQ_at]
  exact Cert.Mla.Rl.sum _ fun j => (h0 _).mul (h3 _)

theorem refK_rl (A1 : FVec Ideal S32x256x128 .f32) (A2 : FVec Ideal S32x256x32 .f32) (A4 : FVec Ideal S128x4x64 .f32) (h1 : ∀ i, Cert.Mla.Rl (A1 i)) (h2 : ∀ i, Cert.Mla.Rl (A2 i)) (h4 : ∀ i, Cert.Mla.Rl (A4 i))
    (b : Fin 32) (k : Fin 256) (h : Fin 4) (d : Fin 96) : Cert.Mla.Rl (refK A1 A2 A4 (ix4 b k h d)) := by
  by_cases hd : d.val < 64
  · have e := refK_lo A1 A2 A4 b k h ⟨d.val, hd⟩
    exact e ▸ Cert.Mla.Rl.sum _ fun j => (h1 _).mul (h4 _)
  · have e : refK A1 A2 A4 (ix4 b k h d) = A2 (ix3 b k ⟨d.val - 64, by omega⟩) :=
      (congrArg (fun n => refK A1 A2 A4 (ix4 b k h n)) (Fin.ext (by show d.val = 64 + (d.val - 64); omega))).trans (refK_hi A1 A2 A4 b k h ⟨d.val - 64, by omega⟩)
    exact e ▸ h2 _

theorem res_eq (m : (ℓ : Loc nD τ sig) → Buf (Elt Ideal) ℓ) (c : Dev nD) :
    Value.res_out0 m c = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.ReferenceIdeal.Mla
end
-- ==== Proof.MlaV.lean ====
module

public import proofs.«01_k».proof.Proof.MlaFrame
public import proofs.«01_k».proof.Proof.MlaPure
public import proofs.«01_k».proof.Proof.MlaRef

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-! ## Where the blocks lie -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-! ## What the region finds -/

/-- The latent queries, row by row. -/
def cqT (A0 : FVec Ideal S32x256x256 .f32) : FVec Ideal S8192x256 .bf16 :=
  truncf (F := Ideal) .bf16 (φ := .f32) (shapeCast _ A0 shapeCasts_S32x256x256_S8192x256) bitsLt_bf16_f32

/-- The latent keys and values, row by row. -/
def ckvT (A1 : FVec Ideal S32x256x128 .f32) : FVec Ideal S8192x128 .f32 :=
  shapeCast _ A1 shapeCasts_S32x256x128_S8192x128

/-- The shared key lanes and their swapped copy, each in 128 lanes. -/
def krT (A2 : FVec Ideal S32x256x32 .f32) : FVec Ideal S8192x256 .f32 :=
  shapeCast _ (concatenate S32x256x256 2 [⟨S32x256x64, (broadcastInDim S32x256x64 ![] bcast_S_S32x256x64 (constant (F := Ideal) S_ .f32 0x00000000#32))⟩, ⟨S32x256x32, A2⟩, ⟨S32x256x32, (broadcastInDim S32x256x32 ![] bcast_S_S32x256x32 (constant (F := Ideal) S_ .f32 0x00000000#32))⟩, ⟨S32x256x64, (broadcastInDim S32x256x64 ![] bcast_S_S32x256x64 (constant (F := Ideal) S_ .f32 0x00000000#32))⟩, ⟨S32x256x32, (concatenate S32x256x32 2 [⟨S32x256x8, (extractStridedSlice S32x256x8 ![0, 0, 8] A2 slices_S32x256x32_S32x256x8_0_0_8)⟩, ⟨S32x256x8, (extractStridedSlice S32x256x8 ![0, 0, 0] A2 slices_S32x256x32_S32x256x8_0_0_0)⟩, ⟨S32x256x8, (extractStridedSlice S32x256x8 ![0, 0, 24] A2 slices_S32x256x32_S32x256x8_0_0_24)⟩, ⟨S32x256x8, (extractStridedSlice S32x256x8 ![0, 0, 16] A2 slices_S32x256x32_S32x256x8_0_0_16)⟩] concatenates_S32x256x8_S32x256x8_S32x256x8_S32x256x8_S32x256x32_d2)⟩, ⟨S32x256x32, (broadcastInDim S32x256x32 ![] bcast_S_S32x256x32 (constant (F := Ideal) S_ .f32 0x00000000#32))⟩] concatenates_S32x256x64_S32x256x32_S32x256x32_S32x256x64_S32x256x32_S32x256x32_S32x256x256_d2) shapeCasts_S32x256x256_S8192x256

/-- The cosines: one in the first 96 lanes. -/
def cosT  : FVec Ideal S256x128 .f32 :=
  concatenate S256x128 1 [⟨S256x96, (broadcastInDim S256x96 ![] bcast_S_S256x96 (constant (F := Ideal) S_ .f32 0x3F800000#32))⟩, ⟨S256x32, (broadcastInDim S256x32 ![] bcast_S_S256x32 (constant (F := Ideal) S_ .f32 0x00000000#32))⟩] concatenates_S256x96_S256x32_S256x128_d1

/-- The sines: zero. -/
def sinT  : FVec Ideal S256x128 .f32 :=
  broadcastInDim S256x128 ![] bcast_S_S256x128 (constant (F := Ideal) S_ .f32 0x00000000#32)

/-- The query weights, each head in 128 lanes. -/
def wqaT (A3 : FVec Ideal S256x4x96 .f32) : FVec Ideal S256x512 .bf16 :=
  truncf (F := Ideal) .bf16 (φ := .f32) (concatenate S256x512 1 [⟨S256x64, (shapeCast _ (extractStridedSlice S256x1x64 ![0, 0, 0] A3 slices_S256x4x96_S256x1x64_0_0_0) shapeCasts_S256x1x64_S256x64)⟩, ⟨S256x32, (shapeCast _ (extractStridedSlice S256x1x32 ![0, 0, 64] A3 slices_S256x4x96_S256x1x32_0_0_64) shapeCasts_S256x1x32_S256x32)⟩, ⟨S256x32, (broadcastInDim S256x32 ![] bcast_S_S256x32 (constant (F := Ideal) S_ .f32 0x00000000#32))⟩, ⟨S256x64, (shapeCast _ (extractStridedSlice S256x1x64 ![0, 1, 0] A3 slices_S256x4x96_S256x1x64_0_1_0) shapeCasts_S256x1x64_S256x64)⟩, ⟨S256x32, (shapeCast _ (extractStridedSlice S256x1x32 ![0, 1, 64] A3 slices_S256x4x96_S256x1x32_0_1_64) shapeCasts_S256x1x32_S256x32)⟩, ⟨S256x32, (broadcastInDim S256x32 ![] bcast_S_S256x32 (constant (F := Ideal) S_ .f32 0x00000000#32))⟩, ⟨S256x64, (shapeCast _ (extractStridedSlice S256x1x64 ![0, 2, 0] A3 slices_S256x4x96_S256x1x64_0_2_0) shapeCasts_S256x1x64_S256x64)⟩, ⟨S256x32, (shapeCast _ (extractStridedSlice S256x1x32 ![0, 2, 64] A3 slices_S256x4x96_S256x1x32_0_2_64) shapeCasts_S256x1x32_S256x32)⟩, ⟨S256x32, (broadcastInDim S256x32 ![] bcast_S_S256x32 (constant (F := Ideal) S_ .f32 0x00000000#32))⟩, ⟨S256x64, (shapeCast _ (extractStridedSlice S256x1x64 ![0, 3, 0] A3 slices_S256x4x96_S256x1x64_0_3_0) shapeCasts_S256x1x64_S256x64)⟩, ⟨S256x32, (shapeCast _ (extractStridedSlice S256x1x32 ![0, 3, 64] A3 slices_S256x4x96_S256x1x32_0_3_64) shapeCasts_S256x1x32_S256x32)⟩, ⟨S256x32, (broadcastInDim S256x32 ![] bcast_S_S256x32 (constant (F := Ideal) S_ .f32 0x00000000#32))⟩] concatenates_S256x64_S256x32_S256x32_S256x64_S256x32_S256x32_S256x64_S256x32_S256x32_S256x64_S256x32_S256x32_S256x512_d1) bitsLt_bf16_f32

/-- The key weights, each head in 128 lanes. -/
def wkT (A4 : FVec Ideal S128x4x64 .f32) : FVec Ideal S128x512 .bf16 :=
  truncf (F := Ideal) .bf16 (φ := .f32) (concatenate S128x512 1 [⟨S128x64, (shapeCast _ (extractStridedSlice S128x1x64 ![0, 0, 0] A4 slices_S128x4x64_S128x1x64_0_0_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 1, 0] A4 slices_S128x4x64_S128x1x64_0_1_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 2, 0] A4 slices_S128x4x64_S128x1x64_0_2_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 3, 0] A4 slices_S128x4x64_S128x1x64_0_3_0) shapeCasts_S128x1x64_S128x64)⟩, ⟨S128x64, (broadcastInDim S128x64 ![] bcast_S_S128x64 (constant (F := Ideal) S_ .f32 0x00000000#32))⟩] concatenates_S128x64_S128x64_S128x64_S128x64_S128x64_S128x64_S128x64_S128x64_S128x512_d1) bitsLt_bf16_f32

/-- The value weights, each head in 128 lanes. -/
def wvT (A5 : FVec Ideal S128x4x64 .f32) : FVec Ideal S128x512 .bf16 :=
  truncf (F := Ideal) .bf16 (φ := .f32) (concatenate S128x512 1 [⟨S128x64, (shapeCast _ (extractStridedSlice S128x1x64 ![0, 0, 0] A5 slices_S128x4x64_S128x1x64_0_0_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 1, 0] A5 slices_S128x4x64_S128x1x64_0_1_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 2, 0] A5 slices_S128x4x64_S128x1x64_0_2_0) shapeCasts_S128x1x64_S128x64)⟩, ⟨S128x64, (broadcastInDim S128x64 ![] bcast_S_S128x64 (constant (F := Ideal) S_ .f32 0x00000000#32))⟩, ⟨S128x64, (shapeCast _ (extractStridedSlice S128x1x64 ![0, 3, 0] A5 slices_S128x4x64_S128x1x64_0_3_0) shapeCasts_S128x1x64_S128x64)⟩, ⟨S128x64, (broadcastInDim S128x64 ![] bcast_S_S128x64 (constant (F := Ideal) S_ .f32 0x00000000#32))⟩] concatenates_S128x64_S128x64_S128x64_S128x64_S128x64_S128x64_S128x64_S128x64_S128x512_d1) bitsLt_bf16_f32

theorem V_v13 (c : Dev nD) : V m c main_v13 = (show FVec Ideal S8192x256 .bf16 from cqT (m ((c.tc : Thread nD τ).loc main_arg0))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v14 (c : Dev nD) : V m c main_v14 = (show FVec Ideal S8192x128 .f32 from ckvT (m ((c.tc : Thread nD τ).loc main_arg1))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v15 (c : Dev nD) : V m c main_v15 = (show FVec Ideal S8192x256 .f32 from krT (m ((c.tc : Thread nD τ).loc main_arg2))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v10 (c : Dev nD) : V m c main_v10 = (show FVec Ideal S256x128 .f32 from cosT) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v11 (c : Dev nD) : V m c main_v11 = (show FVec Ideal S256x128 .f32 from sinT) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v72 (c : Dev nD) : V m c main_v72 = (show FVec Ideal S256x512 .bf16 from wqaT (m ((c.tc : Thread nD τ).loc main_arg3))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v76 (c : Dev nD) : V m c main_v76 = (show FVec Ideal S128x512 .bf16 from wkT (m ((c.tc : Thread nD τ).loc main_arg4))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v78 (c : Dev nD) : V m c main_v78 = (show FVec Ideal S128x512 .bf16 from wvT (m ((c.tc : Thread nD τ).loc main_arg5))) := by
  simp only [V, hostOps0]
  simp only [StableHlo.after_cons, StableHlo.after_nil, StableHlo.TRef.binary, StableHlo.TRef.nullary, StableHlo.TRef.unary, StableHlo.TRef.toBuf, StableHlo.TRef.ofBuf, cast_eq]
  after_results_simp
  all_goals rfl

end Cert.KernelIdeal.Mla

end
-- ==== Proof.MlaIn.lean ====
module

public import proofs.«01_k».proof.Proof.MlaV

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

theorem cqT_at (A0 : FVec Ideal S32x256x256 .f32) (b : Fin 32) (r : Fin 256) (j : Fin 256) : cqT A0 (ix2 ⟨256 * b.val + r.val, by omega⟩ j) = A0 (ix3 b r j) := by
  pointwise [cqT]

theorem ckvT_at (A1 : FVec Ideal S32x256x128 .f32) (b : Fin 32) (r : Fin 256) (j : Fin 128) : ckvT A1 (ix2 ⟨256 * b.val + r.val, by omega⟩ j) = A1 (ix3 b r j) := by
  pointwise [ckvT]

theorem krT_lo (A2 : FVec Ideal S32x256x32 .f32) (b : Fin 32) (r : Fin 256) (d : Fin 64) : krT A2 (ix2 ⟨256 * b.val + r.val, by omega⟩ ⟨d.val, by omega⟩) = 0 := by
  pointwise [krT]

theorem krT_hi (A2 : FVec Ideal S32x256x32 .f32) (b : Fin 32) (r : Fin 256) (d : Fin 32) : krT A2 (ix2 ⟨256 * b.val + r.val, by omega⟩ ⟨64 + d.val, by omega⟩) = A2 (ix3 b r d) := by
  pointwise [krT]

theorem cosT_lo (r : Fin 256) (d : Fin 96) : cosT (ix2 r ⟨d.val, by omega⟩) = Ideal.ofBits FTy.f32 0x3F800000#32 := by
  pointwise [cosT]

theorem cosT_hi (r : Fin 256) (d : Fin 32) : cosT (ix2 r ⟨96 + d.val, by omega⟩) = 0 := by
  pointwise [cosT]

theorem sinT_at (r : Fin 256) (d : Fin 128) : sinT (ix2 r d) = 0 := by
  pointwise [sinT]

theorem wqaT_lo0 (A3 : FVec Ideal S256x4x96 .f32) (j : Fin 256) (d : Fin 64) : wqaT A3 (ix2 j ⟨0 + d.val, by omega⟩) = A3 (ix3 j 0 ⟨d.val, by omega⟩) := by
  pointwise [wqaT]
  all_goals (repeat (first | rw [dif_neg (by omega)] | rw [dif_pos (by omega)]))
  all_goals first | rfl | exact congrArg (fun v => A3 (ix3 j 0 v)) (Fin.ext (by first | omega | (dsimp only; omega)))

theorem wqaT_hi0 (A3 : FVec Ideal S256x4x96 .f32) (j : Fin 256) (d : Fin 32) : wqaT A3 (ix2 j ⟨64 + d.val, by omega⟩) = A3 (ix3 j 0 ⟨64 + d.val, by omega⟩) := by
  pointwise [wqaT]
  all_goals (repeat (first | rw [dif_neg (by omega)] | rw [dif_pos (by omega)]))
  all_goals first | rfl | exact congrArg (fun v => A3 (ix3 j 0 v)) (Fin.ext (by first | omega | (dsimp only; omega)))

theorem wqaT_lo1 (A3 : FVec Ideal S256x4x96 .f32) (j : Fin 256) (d : Fin 64) : wqaT A3 (ix2 j ⟨128 + d.val, by omega⟩) = A3 (ix3 j 1 ⟨d.val, by omega⟩) := by
  pointwise [wqaT]
  all_goals (repeat (first | rw [dif_neg (by omega)] | rw [dif_pos (by omega)]))
  all_goals first | rfl | exact congrArg (fun v => A3 (ix3 j 1 v)) (Fin.ext (by first | omega | (dsimp only; omega)))

theorem wqaT_hi1 (A3 : FVec Ideal S256x4x96 .f32) (j : Fin 256) (d : Fin 32) : wqaT A3 (ix2 j ⟨192 + d.val, by omega⟩) = A3 (ix3 j 1 ⟨64 + d.val, by omega⟩) := by
  pointwise [wqaT]
  all_goals (repeat (first | rw [dif_neg (by omega)] | rw [dif_pos (by omega)]))
  all_goals first | rfl | exact congrArg (fun v => A3 (ix3 j 1 v)) (Fin.ext (by first | omega | (dsimp only; omega)))

theorem wqaT_lo2 (A3 : FVec Ideal S256x4x96 .f32) (j : Fin 256) (d : Fin 64) : wqaT A3 (ix2 j ⟨256 + d.val, by omega⟩) = A3 (ix3 j 2 ⟨d.val, by omega⟩) := by
  pointwise [wqaT]
  all_goals (repeat (first | rw [dif_neg (by omega)] | rw [dif_pos (by omega)]))
  all_goals first | rfl | exact congrArg (fun v => A3 (ix3 j 2 v)) (Fin.ext (by first | omega | (dsimp only; omega)))

theorem wqaT_hi2 (A3 : FVec Ideal S256x4x96 .f32) (j : Fin 256) (d : Fin 32) : wqaT A3 (ix2 j ⟨320 + d.val, by omega⟩) = A3 (ix3 j 2 ⟨64 + d.val, by omega⟩) := by
  pointwise [wqaT]
  all_goals (repeat (first | rw [dif_neg (by omega)] | rw [dif_pos (by omega)]))
  all_goals first | rfl | exact congrArg (fun v => A3 (ix3 j 2 v)) (Fin.ext (by first | omega | (dsimp only; omega)))

theorem wqaT_lo3 (A3 : FVec Ideal S256x4x96 .f32) (j : Fin 256) (d : Fin 64) : wqaT A3 (ix2 j ⟨384 + d.val, by omega⟩) = A3 (ix3 j 3 ⟨d.val, by omega⟩) := by
  pointwise [wqaT]
  all_goals (repeat (first | rw [dif_neg (by omega)] | rw [dif_pos (by omega)]))
  all_goals first | rfl | exact congrArg (fun v => A3 (ix3 j 3 v)) (Fin.ext (by first | omega | (dsimp only; omega)))

theorem wqaT_hi3 (A3 : FVec Ideal S256x4x96 .f32) (j : Fin 256) (d : Fin 32) : wqaT A3 (ix2 j ⟨448 + d.val, by omega⟩) = A3 (ix3 j 3 ⟨64 + d.val, by omega⟩) := by
  pointwise [wqaT]
  all_goals (repeat (first | rw [dif_neg (by omega)] | rw [dif_pos (by omega)]))
  all_goals first | rfl | exact congrArg (fun v => A3 (ix3 j 3 v)) (Fin.ext (by first | omega | (dsimp only; omega)))

theorem wkT_lo0 (A4 : FVec Ideal S128x4x64 .f32) (j : Fin 128) (d : Fin 64) : wkT A4 (ix2 j ⟨0 + d.val, by omega⟩) = A4 (ix3 j 0 d) := by
  pointwise [wkT]
  all_goals (repeat (first | rw [dif_neg (by omega)] | rw [dif_pos (by omega)]))
  all_goals first | rfl | exact congrArg (fun v => A4 (ix3 j 0 v)) (Fin.ext (by first | omega | (dsimp only; omega)))

theorem wkT_hi0 (A4 : FVec Ideal S128x4x64 .f32) (j : Fin 128) (d : Fin 32) : wkT A4 (ix2 j ⟨64 + d.val, by omega⟩) = 0 := by
  pointwise [wkT]
  all_goals (repeat (first | rw [dif_neg (by omega)] | rw [dif_pos (by omega)]))
  all_goals first | rfl | exact congrArg (fun v => A4 (ix3 j 0 v)) (Fin.ext (by first | omega | (dsimp only; omega)))

theorem wkT_lo1 (A4 : FVec Ideal S128x4x64 .f32) (j : Fin 128) (d : Fin 64) : wkT A4 (ix2 j ⟨128 + d.val, by omega⟩) = A4 (ix3 j 1 d) := by
  pointwise [wkT]
  all_goals (repeat (first | rw [dif_neg (by omega)] | rw [dif_pos (by omega)]))
  all_goals first | rfl | exact congrArg (fun v => A4 (ix3 j 1 v)) (Fin.ext (by first | omega | (dsimp only; omega)))

theorem wkT_hi1 (A4 : FVec Ideal S128x4x64 .f32) (j : Fin 128) (d : Fin 32) : wkT A4 (ix2 j ⟨192 + d.val, by omega⟩) = 0 := by
  pointwise [wkT]
  all_goals (repeat (first | rw [dif_neg (by omega)] | rw [dif_pos (by omega)]))
  all_goals first | rfl | exact congrArg (fun v => A4 (ix3 j 1 v)) (Fin.ext (by first | omega | (dsimp only; omega)))

theorem wkT_lo2 (A4 : FVec Ideal S128x4x64 .f32) (j : Fin 128) (d : Fin 64) : wkT A4 (ix2 j ⟨256 + d.val, by omega⟩) = A4 (ix3 j 2 d) := by
  pointwise [wkT]
  all_goals (repeat (first | rw [dif_neg (by omega)] | rw [dif_pos (by omega)]))
  all_goals first | rfl | exact congrArg (fun v => A4 (ix3 j 2 v)) (Fin.ext (by first | omega | (dsimp only; omega)))

theorem wkT_hi2 (A4 : FVec Ideal S128x4x64 .f32) (j : Fin 128) (d : Fin 32) : wkT A4 (ix2 j ⟨320 + d.val, by omega⟩) = 0 := by
  pointwise [wkT]
  all_goals (repeat (first | rw [dif_neg (by omega)] | rw [dif_pos (by omega)]))
  all_goals first | rfl | exact congrArg (fun v => A4 (ix3 j 2 v)) (Fin.ext (by first | omega | (dsimp only; omega)))

theorem wkT_lo3 (A4 : FVec Ideal S128x4x64 .f32) (j : Fin 128) (d : Fin 64) : wkT A4 (ix2 j ⟨384 + d.val, by omega⟩) = A4 (ix3 j 3 d) := by
  pointwise [wkT]
  all_goals (repeat (first | rw [dif_neg (by omega)] | rw [dif_pos (by omega)]))
  all_goals first | rfl | exact congrArg (fun v => A4 (ix3 j 3 v)) (Fin.ext (by first | omega | (dsimp only; omega)))

theorem wkT_hi3 (A4 : FVec Ideal S128x4x64 .f32) (j : Fin 128) (d : Fin 32) : wkT A4 (ix2 j ⟨448 + d.val, by omega⟩) = 0 := by
  pointwise [wkT]
  all_goals (repeat (first | rw [dif_neg (by omega)] | rw [dif_pos (by omega)]))
  all_goals first | rfl | exact congrArg (fun v => A4 (ix3 j 3 v)) (Fin.ext (by first | omega | (dsimp only; omega)))

theorem wvT_lo0 (A5 : FVec Ideal S128x4x64 .f32) (j : Fin 128) (d : Fin 64) : wvT A5 (ix2 j ⟨0 + d.val, by omega⟩) = A5 (ix3 j 0 d) := by
  pointwise [wvT]
  all_goals (repeat (first | rw [dif_neg (by omega)] | rw [dif_pos (by omega)]))
  all_goals first | rfl | exact congrArg (fun v => A5 (ix3 j 0 v)) (Fin.ext (by first | omega | (dsimp only; omega)))

theorem wvT_lo1 (A5 : FVec Ideal S128x4x64 .f32) (j : Fin 128) (d : Fin 64) : wvT A5 (ix2 j ⟨128 + d.val, by omega⟩) = A5 (ix3 j 1 d) := by
  pointwise [wvT]
  all_goals (repeat (first | rw [dif_neg (by omega)] | rw [dif_pos (by omega)]))
  all_goals first | rfl | exact congrArg (fun v => A5 (ix3 j 1 v)) (Fin.ext (by first | omega | (dsimp only; omega)))

theorem wvT_lo2 (A5 : FVec Ideal S128x4x64 .f32) (j : Fin 128) (d : Fin 64) : wvT A5 (ix2 j ⟨256 + d.val, by omega⟩) = A5 (ix3 j 2 d) := by
  pointwise [wvT]
  all_goals (repeat (first | rw [dif_neg (by omega)] | rw [dif_pos (by omega)]))
  all_goals first | rfl | exact congrArg (fun v => A5 (ix3 j 2 v)) (Fin.ext (by first | omega | (dsimp only; omega)))

theorem wvT_lo3 (A5 : FVec Ideal S128x4x64 .f32) (j : Fin 128) (d : Fin 64) : wvT A5 (ix2 j ⟨384 + d.val, by omega⟩) = A5 (ix3 j 3 d) := by
  pointwise [wvT]
  all_goals (repeat (first | rw [dif_neg (by omega)] | rw [dif_pos (by omega)]))
  all_goals first | rfl | exact congrArg (fun v => A5 (ix3 j 3 v)) (Fin.ext (by first | omega | (dsimp only; omega)))

theorem wqaT_at (A3 : FVec Ideal S256x4x96 .f32) (j : Fin 256) (h : Fin 4) (d : Fin 96) : wqaT A3 (ix2 j ⟨128 * h.val + d.val, by omega⟩) = A3 (ix3 j h d) := by
  by_cases hd : d.val < 64
  · match h with
    | 0 => exact (congrArg (fun n => wqaT A3 (ix2 j n)) (Fin.ext (by show 128 * 0 + d.val = 0 + d.val; omega))).trans (wqaT_lo0 A3 j ⟨d.val, hd⟩)
    | 1 => exact (congrArg (fun n => wqaT A3 (ix2 j n)) (Fin.ext (by show 128 * 1 + d.val = 128 + d.val; omega))).trans (wqaT_lo1 A3 j ⟨d.val, hd⟩)
    | 2 => exact (congrArg (fun n => wqaT A3 (ix2 j n)) (Fin.ext (by show 128 * 2 + d.val = 256 + d.val; omega))).trans (wqaT_lo2 A3 j ⟨d.val, hd⟩)
    | 3 => exact (congrArg (fun n => wqaT A3 (ix2 j n)) (Fin.ext (by show 128 * 3 + d.val = 384 + d.val; omega))).trans (wqaT_lo3 A3 j ⟨d.val, hd⟩)
  · match h with
    | 0 => exact ((congrArg (fun n => wqaT A3 (ix2 j n)) (Fin.ext (by show 128 * 0 + d.val = 64 + (d.val - 64); omega))).trans (wqaT_hi0 A3 j ⟨d.val - 64, by omega⟩)).trans (congrArg (fun n => A3 (ix3 j 0 n)) (Fin.ext (by show 64 + (d.val - 64) = d.val; omega)))
    | 1 => exact ((congrArg (fun n => wqaT A3 (ix2 j n)) (Fin.ext (by show 128 * 1 + d.val = 192 + (d.val - 64); omega))).trans (wqaT_hi1 A3 j ⟨d.val - 64, by omega⟩)).trans (congrArg (fun n => A3 (ix3 j 1 n)) (Fin.ext (by show 64 + (d.val - 64) = d.val; omega)))
    | 2 => exact ((congrArg (fun n => wqaT A3 (ix2 j n)) (Fin.ext (by show 128 * 2 + d.val = 320 + (d.val - 64); omega))).trans (wqaT_hi2 A3 j ⟨d.val - 64, by omega⟩)).trans (congrArg (fun n => A3 (ix3 j 2 n)) (Fin.ext (by show 64 + (d.val - 64) = d.val; omega)))
    | 3 => exact ((congrArg (fun n => wqaT A3 (ix2 j n)) (Fin.ext (by show 128 * 3 + d.val = 448 + (d.val - 64); omega))).trans (wqaT_hi3 A3 j ⟨d.val - 64, by omega⟩)).trans (congrArg (fun n => A3 (ix3 j 3 n)) (Fin.ext (by show 64 + (d.val - 64) = d.val; omega)))

theorem wkT_at (A4 : FVec Ideal S128x4x64 .f32) (j : Fin 128) (h : Fin 4) (d : Fin 64) : wkT A4 (ix2 j ⟨128 * h.val + d.val, by omega⟩) = A4 (ix3 j h d) := by
    match h with
    | 0 => exact (congrArg (fun n => wkT A4 (ix2 j n)) (Fin.ext (by show 128 * 0 + d.val = 0 + d.val; omega))).trans (wkT_lo0 A4 j d)
    | 1 => exact (congrArg (fun n => wkT A4 (ix2 j n)) (Fin.ext (by show 128 * 1 + d.val = 128 + d.val; omega))).trans (wkT_lo1 A4 j d)
    | 2 => exact (congrArg (fun n => wkT A4 (ix2 j n)) (Fin.ext (by show 128 * 2 + d.val = 256 + d.val; omega))).trans (wkT_lo2 A4 j d)
    | 3 => exact (congrArg (fun n => wkT A4 (ix2 j n)) (Fin.ext (by show 128 * 3 + d.val = 384 + d.val; omega))).trans (wkT_lo3 A4 j d)

theorem wkT_z (A4 : FVec Ideal S128x4x64 .f32) (j : Fin 128) (h : Fin 4) (d : Fin 32) : wkT A4 (ix2 j ⟨128 * h.val + (64 + d.val), by omega⟩) = 0 := by
    match h with
    | 0 => exact (congrArg (fun n => wkT A4 (ix2 j n)) (Fin.ext (by show 128 * 0 + (64 + d.val) = 64 + d.val; omega))).trans (wkT_hi0 A4 j d)
    | 1 => exact (congrArg (fun n => wkT A4 (ix2 j n)) (Fin.ext (by show 128 * 1 + (64 + d.val) = 192 + d.val; omega))).trans (wkT_hi1 A4 j d)
    | 2 => exact (congrArg (fun n => wkT A4 (ix2 j n)) (Fin.ext (by show 128 * 2 + (64 + d.val) = 320 + d.val; omega))).trans (wkT_hi2 A4 j d)
    | 3 => exact (congrArg (fun n => wkT A4 (ix2 j n)) (Fin.ext (by show 128 * 3 + (64 + d.val) = 448 + d.val; omega))).trans (wkT_hi3 A4 j d)

theorem wvT_at (A5 : FVec Ideal S128x4x64 .f32) (j : Fin 128) (h : Fin 4) (u : Fin 64) : wvT A5 (ix2 j ⟨128 * h.val + u.val, by omega⟩) = A5 (ix3 j h u) := by
    match h with
    | 0 => exact (congrArg (fun n => wvT A5 (ix2 j n)) (Fin.ext (by show 128 * 0 + u.val = 0 + u.val; omega))).trans (wvT_lo0 A5 j u)
    | 1 => exact (congrArg (fun n => wvT A5 (ix2 j n)) (Fin.ext (by show 128 * 1 + u.val = 128 + u.val; omega))).trans (wvT_lo1 A5 j u)
    | 2 => exact (congrArg (fun n => wvT A5 (ix2 j n)) (Fin.ext (by show 128 * 2 + u.val = 256 + u.val; omega))).trans (wvT_lo2 A5 j u)
    | 3 => exact (congrArg (fun n => wvT A5 (ix2 j n)) (Fin.ext (by show 128 * 3 + u.val = 384 + u.val; omega))).trans (wvT_lo3 A5 j u)

/-! ## The blocks at a point -/

variable (m : (ℓ : Loc nD τ sig) → Buf (Elt Ideal) ℓ)

/-- The argument arrays. -/
abbrev A0 (c : Dev nD) : FVec Ideal S32x256x256 .f32 := m ((c.tc : Thread nD τ).loc main_arg0)
abbrev A1 (c : Dev nD) : FVec Ideal S32x256x128 .f32 := m ((c.tc : Thread nD τ).loc main_arg1)
abbrev A2 (c : Dev nD) : FVec Ideal S32x256x32 .f32 := m ((c.tc : Thread nD τ).loc main_arg2)
abbrev A3 (c : Dev nD) : FVec Ideal S256x4x96 .f32 := m ((c.tc : Thread nD τ).loc main_arg3)
abbrev A4 (c : Dev nD) : FVec Ideal S128x4x64 .f32 := m ((c.tc : Thread nD τ).loc main_arg4)
abbrev A5 (c : Dev nD) : FVec Ideal S128x4x64 .f32 := m ((c.tc : Thread nD τ).loc main_arg5)

/-- The sequence a grid point works on. -/
abbrev sq (t : Fin cfg0.N) : Fin 32 := ⟨t.val, t.isLt⟩

theorem in0 (c : Dev nD) (t : Fin cfg0.N) (r : Fin 256) (x : Fin 256) : iblk m c 0 t (ix2 r x) = cqT (A0 m c) (ix2 ⟨256 * (sq t).val + r.val, by omega⟩ x) := by
  have h : (((cfg0.win 0).blk t).view.emb (ix2 r x) : S8192x256.Idx) = (ix2 ⟨256 * (sq t).val + r.val, by omega⟩ x) := by
    blk_ext [idx t]
  unfold iblk
  show V m c main_v13 (((cfg0.win 0).blk t).view.emb (ix2 r x)) = _
  rw [V_v13, h]

theorem in1 (c : Dev nD) (t : Fin cfg0.N) (r : Fin 256) (x : Fin 128) : iblk m c 1 t (ix2 r x) = ckvT (A1 m c) (ix2 ⟨256 * (sq t).val + r.val, by omega⟩ x) := by
  have h : (((cfg0.win 1).blk t).view.emb (ix2 r x) : S8192x128.Idx) = (ix2 ⟨256 * (sq t).val + r.val, by omega⟩ x) := by
    blk_ext [idx t]
  unfold iblk
  show V m c main_v14 (((cfg0.win 1).blk t).view.emb (ix2 r x)) = _
  rw [V_v14, h]

theorem in2 (c : Dev nD) (t : Fin cfg0.N) (r : Fin 256) (x : Fin 256) : iblk m c 2 t (ix2 r x) = krT (A2 m c) (ix2 ⟨256 * (sq t).val + r.val, by omega⟩ x) := by
  have h : (((cfg0.win 2).blk t).view.emb (ix2 r x) : S8192x256.Idx) = (ix2 ⟨256 * (sq t).val + r.val, by omega⟩ x) := by
    blk_ext [idx t]
  unfold iblk
  show V m c main_v15 (((cfg0.win 2).blk t).view.emb (ix2 r x)) = _
  rw [V_v15, h]

theorem in3 (c : Dev nD) (t : Fin cfg0.N) (r : Fin 256) (x : Fin 128) : iblk m c 3 t (ix2 r x) = cosT (ix2 r x) := by
  have h : (((cfg0.win 3).blk t).view.emb (ix2 r x) : S256x128.Idx) = (ix2 r x) := by
    blk_ext [idx t]
  unfold iblk
  show V m c main_v10 (((cfg0.win 3).blk t).view.emb (ix2 r x)) = _
  rw [V_v10, h]

theorem in4 (c : Dev nD) (t : Fin cfg0.N) (r : Fin 256) (x : Fin 128) : iblk m c 4 t (ix2 r x) = sinT (ix2 r x) := by
  have h : (((cfg0.win 4).blk t).view.emb (ix2 r x) : S256x128.Idx) = (ix2 r x) := by
    blk_ext [idx t]
  unfold iblk
  show V m c main_v11 (((cfg0.win 4).blk t).view.emb (ix2 r x)) = _
  rw [V_v11, h]

theorem in5 (c : Dev nD) (t : Fin cfg0.N) (r : Fin 256) (x : Fin 128) : iblk m c 5 t (ix2 r x) = cosT (ix2 r x) := by
  have h : (((cfg0.win 5).blk t).view.emb (ix2 r x) : S256x128.Idx) = (ix2 r x) := by
    blk_ext [idx t]
  unfold iblk
  show V m c main_v10 (((cfg0.win 5).blk t).view.emb (ix2 r x)) = _
  rw [V_v10, h]

theorem in6 (c : Dev nD) (t : Fin cfg0.N) (r : Fin 256) (x : Fin 128) : iblk m c 6 t (ix2 r x) = sinT (ix2 r x) := by
  have h : (((cfg0.win 6).blk t).view.emb (ix2 r x) : S256x128.Idx) = (ix2 r x) := by
    blk_ext [idx t]
  unfold iblk
  show V m c main_v11 (((cfg0.win 6).blk t).view.emb (ix2 r x)) = _
  rw [V_v11, h]

theorem in7 (c : Dev nD) (t : Fin cfg0.N) (r : Fin 256) (x : Fin 512) : iblk m c 7 t (ix2 r x) = wqaT (A3 m c) (ix2 r x) := by
  have h : (((cfg0.win 7).blk t).view.emb (ix2 r x) : S256x512.Idx) = (ix2 r x) := by
    blk_ext [idx t]
  unfold iblk
  show V m c main_v72 (((cfg0.win 7).blk t).view.emb (ix2 r x)) = _
  rw [V_v72, h]

theorem in9 (c : Dev nD) (t : Fin cfg0.N) (r : Fin 128) (x : Fin 512) : iblk m c 9 t (ix2 r x) = wkT (A4 m c) (ix2 r x) := by
  have h : (((cfg0.win 9).blk t).view.emb (ix2 r x) : S128x512.Idx) = (ix2 r x) := by
    blk_ext [idx t]
  unfold iblk
  show V m c main_v76 (((cfg0.win 9).blk t).view.emb (ix2 r x)) = _
  rw [V_v76, h]

theorem in10 (c : Dev nD) (t : Fin cfg0.N) (r : Fin 128) (x : Fin 512) : iblk m c 10 t (ix2 r x) = wvT (A5 m c) (ix2 r x) := by
  have h : (((cfg0.win 10).blk t).view.emb (ix2 r x) : S128x512.Idx) = (ix2 r x) := by
    blk_ext [idx t]
  unfold iblk
  show V m c main_v78 (((cfg0.win 10).blk t).view.emb (ix2 r x)) = _
  rw [V_v78, h]

end Cert.KernelIdeal.Mla

end
-- ==== Proof.MlaValue.lean ====
module

public import proofs.«01_k».proof.Proof.MlaIn
public import proofs.«01_k».proof.Proof.MlaMath

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- What the precondition gives: the queries' and keys' arrays are real. -/
structure Real5 (c : Dev nD) : Prop where
  h0 : ∀ i, Cert.Mla.Rl (A0 m c i)
  h1 : ∀ i, Cert.Mla.Rl (A1 m c i)
  h2 : ∀ i, Cert.Mla.Rl (A2 m c i)
  h3 : ∀ i, Cert.Mla.Rl (A3 m c i)
  h4 : ∀ i, Cert.Mla.Rl (A4 m c i)

/-- The reference over the kernel's arguments. -/
abbrev refd (c : Dev nD) : FVec Ideal S8192x256 .f32 := Cert.ReferenceIdeal.Mla.refAll (A0 m c) (A1 m c) (A2 m c) (A3 m c) (A4 m c) (A5 m c)

/-- One score at a point. -/
theorem scr_at (c : Dev nD) (t : Fin cfg0.N) (r k : Fin 256) (h : Fin 4) :
    Cert.Mla.scr (fun j => iblk m c 0 t (ix2 r j)) (fun j n => iblk m c 7 t (ix2 j n)) (fun j n => iblk m c 8 t (ix2 j n)) (fun d => iblk m c 3 t (ix2 r d)) (fun d => iblk m c 4 t (ix2 r d)) (fun j => iblk m c 1 t (ix2 k j)) (fun j n => iblk m c 9 t (ix2 j n)) (fun d => iblk m c 2 t (ix2 k d)) (fun d => iblk m c 5 t (ix2 k d)) (fun d => iblk m c 6 t (ix2 k d)) h
      = (∑ d, Cert.ReferenceIdeal.Mla.refQ (A0 m c) (A3 m c) (ix4 (sq t) r h d) * Cert.ReferenceIdeal.Mla.refK (A1 m c) (A2 m c) (A4 m c) (ix4 (sq t) k h d)) * Cert.Mla.sc := by
  refine Cert.Mla.scr_eq _ _ _ _ _ _ _ _ _ _ h (fun d => Cert.ReferenceIdeal.Mla.refQ (A0 m c) (A3 m c) (ix4 (sq t) r h d)) (fun d => Cert.ReferenceIdeal.Mla.refK (A1 m c) (A2 m c) (A4 m c) (ix4 (sq t) k h d))
    (fun d => ?_) (fun d => ?_) (fun j d => ?_) (fun d => ?_) (fun d => ?_) (fun d => ?_) (fun d => ?_) (fun d => ?_) (fun d => ?_) (fun d => ?_)
  · refine Eq.trans (Finset.sum_congr rfl fun j _ => ?_) (Cert.ReferenceIdeal.Mla.refQ_at _ _ (sq t) r h d).symm
    exact congrArg₂ (· * ·) ((in0 m c t r j).trans (cqT_at _ (sq t) r j)) ((in7 m c t j _).trans (wqaT_at _ j h d))
  · refine Eq.trans (Finset.sum_congr rfl fun j _ => ?_) (Cert.ReferenceIdeal.Mla.refK_lo _ _ _ (sq t) k h d).symm
    exact congrArg₂ (· * ·) ((in1 m c t k j).trans (ckvT_at _ (sq t) k j)) ((in9 m c t j _).trans (wkT_at _ j h d))
  · exact (in9 m c t j _).trans (wkT_z _ j h d)
  · exact ((in2 m c t k _).trans (krT_hi _ (sq t) k d)).trans (Cert.ReferenceIdeal.Mla.refK_hi _ _ _ (sq t) k h d).symm
  · exact (in2 m c t k _).trans (krT_lo _ (sq t) k d)
  · exact ((in3 m c t r _).trans (cosT_lo r d)).trans Cert.Mla.one_eq
  · exact (in3 m c t r _).trans (cosT_hi r d)
  · exact (in4 m c t r _).trans (sinT_at r d)
  · exact ((in5 m c t k _).trans (cosT_lo k d)).trans Cert.Mla.one_eq
  · exact (in6 m c t k _).trans (sinT_at k d)

/-- One element of a point's result. -/
theorem resAt_at (c : Dev nD) (hr : Real5 m c) (t : Fin cfg0.N) (r : Fin 256) (h : Fin 4) (u : Fin 64) :
    resAt m c t (ix2 r ⟨64 * h.val + u.val, by omega⟩) = refd m c (ix2 ⟨256 * (sq t).val + r.val, by omega⟩ ⟨64 * h.val + u.val, by omega⟩) := by
  unfold resAt
  refine (mlaRes_at _ _ _ _ _ _ _ _ _ _ _ r h u).trans ?_
  refine Eq.trans ?_ (Cert.ReferenceIdeal.Mla.refAll_at _ _ _ _ _ _ (sq t) r h u).symm
  refine Eq.trans (congrArg₂ Cert.Mla.att (funext fun k => scr_at m c t r k h) (funext fun k => Finset.sum_congr rfl fun j _ =>
    congrArg₂ (· * ·) ((in1 m c t k j).trans (ckvT_at _ (sq t) k j)) ((in10 m c t j _).trans (wvT_at _ j h u)))) ?_
  refine Cert.Mla.att_eq _ _ fun k => (Cert.Mla.Rl.sum _ fun d => ?_).mul Cert.Mla.sc_rl
  exact (Cert.ReferenceIdeal.Mla.refQ_rl _ _ hr.h0 hr.h3 _ _ _ _).mul (Cert.ReferenceIdeal.Mla.refK_rl _ _ _ hr.h1 hr.h2 hr.h4 _ _ _ _)

theorem final (c : Dev nD) (hr : Real5 m c) : (dats m 0 c).arrAt 11 cfg0.N = refd m c := by
  refine (dats m 0 c).arrAt_eq_of_covers 11 _ (by decide +kernel) fun t hf y => ?_
  have ht : t.val < 32 := t.isLt
  blk_simp
  rw [after0_11]
  idx_vars y
  have h : (((cfg0.win 11).blk t).view.emb (ix2 y0 y1) : S8192x256.Idx) = ix2 ⟨256 * (sq t).val + y0.val, by omega⟩ y1 := by
    blk_ext [idx t]
  refine Eq.trans ?_ (congrArg (refd m c) h).symm
  have hy : y1 = ⟨64 * (⟨y1.val / 64, by omega⟩ : Fin 4).val + (⟨y1.val % 64, by omega⟩ : Fin 64).val, by dsimp only; omega⟩ :=
    Fin.ext (by dsimp only; omega)
  rw [hy]
  exact resAt_at m c hr t y0 ⟨y1.val / 64, by omega⟩ ⟨y1.val % 64, by omega⟩

end Cert.KernelIdeal.Mla

end
-- ==== Proof.MlaClaim.lean ====
module

public import proofs.«01_k».proof.Defs
public import proofs.«01_k».proof.Proof.Gen.Kernel
public import proofs.«01_k».proof.Proof.Gen.Pre_finite_scores
public import proofs.«01_k».proof.Proof.MlaValue

@[expose] public section

set_option maxRecDepth 16384

noncomputable section

namespace Cert.Proof

open Idealize.ShloMosaic Idealize.SL.Sem

/-! # The claims about the prompt's attention -/

set_option maxHeartbeats 8000000 in
/-- The two printed programs call the same body. -/
theorem bodies : Cert.Kernel.defs₀ (F := Bits) = Cert.KernelIdeal.defs₀ (F := Bits) := by
  funext p l a
  cases p with
  | tc =>
    match l, a with
    | 0, (t, s) => rfl
  | scScalar _ => rfl
  | scVector _ _ => rfl

theorem tables : Cert.Kernel.defs (F := Bits) = Cert.KernelIdeal.defs (F := Bits) :=
  congrArg (Pipeline.defs (Cert.KernelIdeal.pcfgs (F := Bits))) bodies

set_option maxHeartbeats 8000000 in
theorem mains : Cert.Kernel.main (F := Bits) = Cert.KernelIdeal.main (F := Bits) := rfl

theorem quiescent1 : Cert.quiescent_Kernel := by
  intro m ρ _
  rw [tables, mains]
  exact Cert.KernelIdeal.Mla.frame (F := Bits) m ρ

theorem quiescent1_ideal : Cert.quiescent_KernelIdeal := fun m ρ _ => Cert.KernelIdeal.Mla.frame (F := Ideal) m ρ

theorem quiescent1_ideal_pre : Cert.quiescent_KernelIdeal_pre_finite_scores := fun m ρ _ => Cert.KernelIdeal.Mla.frame (F := Ideal) m ρ

theorem quiescent1_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem quiescent1_reference_pre : Cert.quiescent_ReferenceIdeal_pre_finite_scores := fun m ρ _ => quiescent1_reference m ρ trivial

theorem run1 (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v79) = (Cert.KernelIdeal.Mla.dats m 0 c).arrAt 11 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c => ⟨(h.1 c).1 11, h.2.1 c⟩)
    (θ_run_and (Cert.KernelIdeal.Mla.run_main m g) (Cert.KernelIdeal.Mla.frame m g))

/-- The precondition says the five arrays behind the scores are real. -/
theorem real5 (m : (ℓ : Loc Cert.KernelIdeal.nD Cert.KernelIdeal.τ Cert.KernelIdeal.sig) → Buf (Elt Ideal) ℓ) (h : Cert.Pre_KernelIdeal_finite_scores m) (c : Dev Cert.KernelIdeal.nD) :
    Cert.KernelIdeal.Mla.Real5 m c where
  h0 i := Cert.Mla.Rl.of_lt (congrFun (h c).1 i)
  h1 i := Cert.Mla.Rl.of_lt (congrFun (h c).2.1 i)
  h2 i := Cert.Mla.Rl.of_lt (congrFun (h c).2.2.1 i)
  h3 i := Cert.Mla.Rl.of_lt (congrFun (h c).2.2.2.1 i)
  h4 i := Cert.Mla.Rl.of_lt (congrFun (h c).2.2.2.2 i)

theorem algebraic1 : Cert.algebraic_KernelIdeal_ReferenceIdeal_pre_finite_scores := by
  intro m g m' g' hpre hagree
  refine ⟨fun c => (Cert.KernelIdeal.Mla.dats m 0 c).arrAt 11 Cert.KernelIdeal.cfg0.N, run1 m g, ?_⟩
  refine (θ_run Cert.ReferenceIdeal.defs _ _).mono (fun r h c => ⟨(h c).1.trans ?_, (h c).2⟩) (Cert.ReferenceIdeal.Value.run (F := Ideal) m' g')
  refine (Cert.ReferenceIdeal.Mla.res_eq m' c).trans ?_
  rw [(hagree c).1, (hagree c).2.1, (hagree c).2.2.1, (hagree c).2.2.2.1, (hagree c).2.2.2.2.1, (hagree c).2.2.2.2.2]
  exact (Cert.KernelIdeal.Mla.final m c (real5 m hpre c)).symm

end Cert.Proof

end
-- ==== Proof.MoeRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.ValueKit.Acc

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- One expert's hidden rows over a block of tokens: the gated product of the expert's two projections, weighted by the
token's gate for that expert (picked out of the gate's lanes). -/
def hidE (e : BitVec 32) (v0 : Vec F S512x1024 .bf16) (v2 : Vec F S512x128 .f32) (v11 v16 : Vec F S1x1x1024x256 .bf16) : FVec F S512x256 .bf16 :=
  have v4 : IVec S512x128 32 := iota .tc S512x128 32 [1] iota_S512x128_d1_w32
  have v5 : IVec S512x128 32 := broadcast S512x128 e
  have v6 : IVec S512x128 1 := cmpi .eq v4 v5
  have cst : F .f32 := Scalar.ofBits .f32 0x00000000#32
  have v7 : FVec F S512x128 .f32 := broadcast S512x128 cst
  have v8 : FVec F S512x128 .f32 := select v6 (k0_pay2 v2) v7
  have v9 : FVec F S512 .f32 := multiReduction .add [1] S512 v8 0x00000000#32 reduces_S512x128_S512 (.inl rfl) rfl
  have v10 : FVec F S512x1 .f32 := shapeCast S512x1 v9 shapeCasts_S512_S512x1
  have v12 : FVec F S1024x256 .bf16 := shapeCast S1024x256 v11 shapeCasts_S1x1x1024x256_S1024x256
  have cst_8 : FVec F S512x256 .f32 := constant S512x256 .f32 0x00000000#32
  have v13 : FVec F S512x256 .f32 := matmul dot_S512x1024_S1024x256_S512x256_1_0_0_1_n_n none (k0_pay1 v0) v12 cst_8
  have v14 : FVec F S512x256 .f32 := logistic v13
  have v15 : FVec F S512x256 .f32 := mulf v13 v14
  have v17 : FVec F S1024x256 .bf16 := shapeCast S1024x256 v16 shapeCasts_S1x1x1024x256_S1024x256
  have cst_13 : FVec F S512x256 .f32 := constant S512x256 .f32 0x00000000#32
  have v18 : FVec F S512x256 .f32 := matmul dot_S512x1024_S1024x256_S512x256_1_0_0_1_n_n none (k0_pay1 v0) v17 cst_13
  have v19 : FVec F S512x256 .f32 := mulf v15 v18
  have v20 : FVec F S512x256 .f32 := broadcastTo S512x256 v10 broadcasts_S512x1_S512x256
  have v21 : FVec F S512x256 .f32 := mulf v19 v20
  have v22 : FVec F S512x256 .bf16 := truncf .bf16 v21 bitsLt_bf16_f32
  have v25 : FVec F S512x256 .bf16 := shapeCast S512x256 v22 shapeCasts_S512x256_S512x256
  v25

/-- The sixteen experts' hidden rows, side by side, as the stores that put them there (the last first). -/
def hidPieces (x0 : Vec F S512x1024 .bf16) (x1 : Vec F S512x128 .f32) (x4 x5 : Vec F S1x16x1024x256 .bf16) : List (View.Piece (Elt F) S512x4096 .bf16) :=
  [⟨Rect.unit (s := S512x4096) ![0, 3840] S512x256.size inb_S512x4096_S512x256_0_3840, hidE 15#32 x0 x1 (View.ld x4 (Rect.unit (s := S1x16x1024x256) ![0, 15, 0, 0] S1x1x1024x256.size inb_S1x16x1024x256_S1x1x1024x256_0_15_0_0)) (View.ld x5 (Rect.unit (s := S1x16x1024x256) ![0, 15, 0, 0] S1x1x1024x256.size inb_S1x16x1024x256_S1x1x1024x256_0_15_0_0))⟩,
   ⟨Rect.unit (s := S512x4096) ![0, 3584] S512x256.size inb_S512x4096_S512x256_0_3584, hidE 14#32 x0 x1 (View.ld x4 (Rect.unit (s := S1x16x1024x256) ![0, 14, 0, 0] S1x1x1024x256.size inb_S1x16x1024x256_S1x1x1024x256_0_14_0_0)) (View.ld x5 (Rect.unit (s := S1x16x1024x256) ![0, 14, 0, 0] S1x1x1024x256.size inb_S1x16x1024x256_S1x1x1024x256_0_14_0_0))⟩,
   ⟨Rect.unit (s := S512x4096) ![0, 3328] S512x256.size inb_S512x4096_S512x256_0_3328, hidE 13#32 x0 x1 (View.ld x4 (Rect.unit (s := S1x16x1024x256) ![0, 13, 0, 0] S1x1x1024x256.size inb_S1x16x1024x256_S1x1x1024x256_0_13_0_0)) (View.ld x5 (Rect.unit (s := S1x16x1024x256) ![0, 13, 0, 0] S1x1x1024x256.size inb_S1x16x1024x256_S1x1x1024x256_0_13_0_0))⟩,
   ⟨Rect.unit (s := S512x4096) ![0, 3072] S512x256.size inb_S512x4096_S512x256_0_3072, hidE 12#32 x0 x1 (View.ld x4 (Rect.unit (s := S1x16x1024x256) ![0, 12, 0, 0] S1x1x1024x256.size inb_S1x16x1024x256_S1x1x1024x256_0_12_0_0)) (View.ld x5 (Rect.unit (s := S1x16x1024x256) ![0, 12, 0, 0] S1x1x1024x256.size inb_S1x16x1024x256_S1x1x1024x256_0_12_0_0))⟩,
   ⟨Rect.unit (s := S512x4096) ![0, 2816] S512x256.size inb_S512x4096_S512x256_0_2816, hidE 11#32 x0 x1 (View.ld x4 (Rect.unit (s := S1x16x1024x256) ![0, 11, 0, 0] S1x1x1024x256.size inb_S1x16x1024x256_S1x1x1024x256_0_11_0_0)) (View.ld x5 (Rect.unit (s := S1x16x1024x256) ![0, 11, 0, 0] S1x1x1024x256.size inb_S1x16x1024x256_S1x1x1024x256_0_11_0_0))⟩,
   ⟨Rect.unit (s := S512x4096) ![0, 2560] S512x256.size inb_S512x4096_S512x256_0_2560, hidE 10#32 x0 x1 (View.ld x4 (Rect.unit (s := S1x16x1024x256) ![0, 10, 0, 0] S1x1x1024x256.size inb_S1x16x1024x256_S1x1x1024x256_0_10_0_0)) (View.ld x5 (Rect.unit (s := S1x16x1024x256) ![0, 10, 0, 0] S1x1x1024x256.size inb_S1x16x1024x256_S1x1x1024x256_0_10_0_0))⟩,
   ⟨Rect.unit (s := S512x4096) ![0, 2304] S512x256.size inb_S512x4096_S512x256_0_2304, hidE 9#32 x0 x1 (View.ld x4 (Rect.unit (s := S1x16x1024x256) ![0, 9, 0, 0] S1x1x1024x256.size inb_S1x16x1024x256_S1x1x1024x256_0_9_0_0)) (View.ld x5 (Rect.unit (s := S1x16x1024x256) ![0, 9, 0, 0] S1x1x1024x256.size inb_S1x16x1024x256_S1x1x1024x256_0_9_0_0))⟩,
   ⟨Rect.unit (s := S512x4096) ![0, 2048] S512x256.size inb_S512x4096_S512x256_0_2048, hidE 8#32 x0 x1 (View.ld x4 (Rect.unit (s := S1x16x1024x256) ![0, 8, 0, 0] S1x1x1024x256.size inb_S1x16x1024x256_S1x1x1024x256_0_8_0_0)) (View.ld x5 (Rect.unit (s := S1x16x1024x256) ![0, 8, 0, 0] S1x1x1024x256.size inb_S1x16x1024x256_S1x1x1024x256_0_8_0_0))⟩,
   ⟨Rect.unit (s := S512x4096) ![0, 1792] S512x256.size inb_S512x4096_S512x256_0_1792, hidE 7#32 x0 x1 (View.ld x4 (Rect.unit (s := S1x16x1024x256) ![0, 7, 0, 0] S1x1x1024x256.size inb_S1x16x1024x256_S1x1x1024x256_0_7_0_0)) (View.ld x5 (Rect.unit (s := S1x16x1024x256) ![0, 7, 0, 0] S1x1x1024x256.size inb_S1x16x1024x256_S1x1x1024x256_0_7_0_0))⟩,
   ⟨Rect.unit (s := S512x4096) ![0, 1536] S512x256.size inb_S512x4096_S512x256_0_1536, hidE 6#32 x0 x1 (View.ld x4 (Rect.unit (s := S1x16x1024x256) ![0, 6, 0, 0] S1x1x1024x256.size inb_S1x16x1024x256_S1x1x1024x256_0_6_0_0)) (View.ld x5 (Rect.unit (s := S1x16x1024x256) ![0, 6, 0, 0] S1x1x1024x256.size inb_S1x16x1024x256_S1x1x1024x256_0_6_0_0))⟩,
   ⟨Rect.unit (s := S512x4096) ![0, 1280] S512x256.size inb_S512x4096_S512x256_0_1280, hidE 5#32 x0 x1 (View.ld x4 (Rect.unit (s := S1x16x1024x256) ![0, 5, 0, 0] S1x1x1024x256.size inb_S1x16x1024x256_S1x1x1024x256_0_5_0_0)) (View.ld x5 (Rect.unit (s := S1x16x1024x256) ![0, 5, 0, 0] S1x1x1024x256.size inb_S1x16x1024x256_S1x1x1024x256_0_5_0_0))⟩,
   ⟨Rect.unit (s := S512x4096) ![0, 1024] S512x256.size inb_S512x4096_S512x256_0_1024, hidE 4#32 x0 x1 (View.ld x4 (Rect.unit (s := S1x16x1024x256) ![0, 4, 0, 0] S1x1x1024x256.size inb_S1x16x1024x256_S1x1x1024x256_0_4_0_0)) (View.ld x5 (Rect.unit (s := S1x16x1024x256) ![0, 4, 0, 0] S1x1x1024x256.size inb_S1x16x1024x256_S1x1x1024x256_0_4_0_0))⟩,
   ⟨Rect.unit (s := S512x4096) ![0, 768] S512x256.size inb_S512x4096_S512x256_0_768, hidE 3#32 x0 x1 (View.ld x4 (Rect.unit (s := S1x16x1024x256) ![0, 3, 0, 0] S1x1x1024x256.size inb_S1x16x1024x256_S1x1x1024x256_0_3_0_0)) (View.ld x5 (Rect.unit (s := S1x16x1024x256) ![0, 3, 0, 0] S1x1x1024x256.size inb_S1x16x1024x256_S1x1x1024x256_0_3_0_0))⟩,
   ⟨Rect.unit (s := S512x4096) ![0, 512] S512x256.size inb_S512x4096_S512x256_0_512, hidE 2#32 x0 x1 (View.ld x4 (Rect.unit (s := S1x16x1024x256) ![0, 2, 0, 0] S1x1x1024x256.size inb_S1x16x1024x256_S1x1x1024x256_0_2_0_0)) (View.ld x5 (Rect.unit (s := S1x16x1024x256) ![0, 2, 0, 0] S1x1x1024x256.size inb_S1x16x1024x256_S1x1x1024x256_0_2_0_0))⟩,
   ⟨Rect.unit (s := S512x4096) ![0, 256] S512x256.size inb_S512x4096_S512x256_0_256, hidE 1#32 x0 x1 (View.ld x4 (Rect.unit (s := S1x16x1024x256) ![0, 1, 0, 0] S1x1x1024x256.size inb_S1x16x1024x256_S1x1x1024x256_0_1_0_0)) (View.ld x5 (Rect.unit (s := S1x16x1024x256) ![0, 1, 0, 0] S1x1x1024x256.size inb_S1x16x1024x256_S1x1x1024x256_0_1_0_0))⟩,
   ⟨Rect.unit (s := S512x4096) ![0, 0] S512x256.size inb_S512x4096_S512x256_0_0, hidE 0#32 x0 x1 (View.ld x4 (Rect.unit (s := S1x16x1024x256) ![0, 0, 0, 0] S1x1x1024x256.size inb_S1x16x1024x256_S1x1x1024x256_0_0_0_0)) (View.ld x5 (Rect.unit (s := S1x16x1024x256) ![0, 0, 0, 0] S1x1x1024x256.size inb_S1x16x1024x256_S1x1x1024x256_0_0_0_0))⟩]

/-- What the hidden buffer holds once all experts have stored. -/
def moeHid (x0 : Vec F S512x1024 .bf16) (x1 : Vec F S512x128 .f32) (x4 x5 : Vec F S1x16x1024x256 .bf16) : Vec F S512x4096 .bf16 := View.canon (hidPieces x0 x1 x4 x5)

/-- What one point stores: the block's rows through the experts, normalised, scaled and added to the residual. -/
def moeRes (x0 : Vec F S512x1024 .bf16) (x1 : Vec F S512x128 .f32) (x2 : Vec F S512x1024 .f32) (x3 : Vec F S1x8x1024 .f32) (x4 : Vec F S1x16x1024x256 .bf16) (x5 : Vec F S1x16x1024x256 .bf16) (x6 : Vec F S1x4096x1024 .bf16) (x7 : Vec F S1x1024 .f32) : Vec F S512x1024 .f32 :=
  k0_pay32 (moeHid x0 x1 x4 x5) x6 x2 x7 x3

set_option maxHeartbeats 4000000 in
/-- One point of the expert call, first output group stored. -/
theorem runA (c : Dev nD) (i : grid0.Coords) (arg1 : Memref sig .tc .vmem S512x1024 .bf16) (harg1 : arg1.IsWhole) (arg2 : Memref sig .tc .vmem S512x128 .f32) (harg2 : arg2.IsWhole) (arg3 : Memref sig .tc .vmem S512x1024 .f32) (harg3 : arg3.IsWhole) (arg4 : Memref sig .tc .vmem S1x8x1024 .f32) (harg4 : arg4.IsWhole) (arg5 : Memref sig .tc .vmem S1x16x1024x256 .bf16) (harg5 : arg5.IsWhole) (arg6 : Memref sig .tc .vmem S1x16x1024x256 .bf16) (harg6 : arg6.IsWhole) (arg7 : Memref sig .tc .vmem S1x4096x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x4096 .bf16) (harg11 : arg11.IsWhole) (hc1 : k0_cond1 i = 1#1) (hc2 : ¬ k0_cond2 i = 1#1) (x0 : Vec F S512x1024 .bf16) (x1 : Vec F S512x128 .f32) (x2 : Vec F S512x1024 .f32) (x3 : Vec F S1x8x1024 .f32) (x4 : Vec F S1x16x1024x256 .bf16) (x5 : Vec F S1x16x1024x256 .bf16) (x6 : Vec F S1x4096x1024 .bf16) (x7 : Vec F S1x1024 .f32) (y8 y9 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (moeRes x0 x1 x2 x3 x4 x5 x6 x7) ∗ owns (c : Thread nD τ) arg10 fullShare y9 ∗ (∃ d, owns (c : Thread nD τ) arg11 fullShare d)) -∗ K ⟨⟩))
      ⊢ wp frame (wpE (defs₀ (F := F)) Variants.none c none) E (cc0_moe i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  simp only [cc0_moe_eq_skeleton]; unfold cc0_moe_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  sl_exec (disch := first | sl_exact hc1 | sl_exact hc2)
  sl_step
  iapply Hk
  isplitl [H0]
  · iexists _; isplitr; swap; · iexact H0
    ipureintro
    first | exact harg1.read_unread _ | skip

  isplitl [H1]
  · iexists _; isplitr; swap; · iexact H1
    ipureintro
    first | exact harg2.read_unread _ | skip

  isplitl [H2]
  · iexists _; isplitr; swap; · iexact H2
    ipureintro
    first | exact harg3.read_unread _ | skip

  isplitl [H3]
  · iexists _; isplitr; swap; · iexact H3
    ipureintro
    first | exact harg4.read_unread _ | skip

  isplitl [H4]
  · iexists _; isplitr; swap; · iexact H4
    ipureintro
    first | exact harg5.read_unread _ | skip

  isplitl [H5]
  · iexists _; isplitr; swap; · iexact H5
    ipureintro
    first | exact harg6.read_unread _ | skip

  isplitl [H6]
  · iexists _; isplitr; swap; · iexact H6
    ipureintro
    first | exact harg7.read_unread _ | skip

  isplitl [H7]
  · iexists _; isplitr; swap; · iexact H7
    ipureintro
    first | exact harg8.read_unread _ | skip

  isplitl [H8]
  · iexists _; isplitr; swap; · iexact H8
    ipureintro
    unfold runA.sl.v341
    rw [View.read_writes_full, View.readCov_eq_canon']
    unfold runA.sl.HS_16
    delta runA.sl.r_14 runA.sl.r_13 runA.sl.r_12 runA.sl.r_11 runA.sl.r_10 runA.sl.r_9 runA.sl.r_8 runA.sl.r_7 runA.sl.r_6 runA.sl.r_5 runA.sl.r_4 runA.sl.r_3 runA.sl.r_2 runA.sl.r_1 runA.sl.r runA.sl.v4
    simp only [View.readAt_eq_ld, harg1.read_unread, harg2.read_unread, harg3.read_unread, harg4.read_unread, harg5.read_unread, harg6.read_unread, harg7.read_unread, harg8.read_unread]
    rw [View.ld_unit_lit (S := S512x1024) inb_S512x1024_S512x1024_0_0 x0 (by decide), View.ld_unit_lit (S := S512x128) inb_S512x128_S512x128_0_0 x1 (by decide), View.ld_unit_lit (S := S512x1024) inb_S512x1024_S512x1024_0_0 x2 (by decide), View.ld_unit_lit (S := S1x4096x1024) inb_S1x4096x1024_S1x4096x1024_0_0_0 x6 (by decide), View.ld_unit_lit (S := S1x1024) inb_S1x1024_S1x1024_0_0 x7 (by decide), View.ld_unit_lit (S := S1x8x1024) inb_S1x8x1024_S1x8x1024_0_0_0 x3 (by decide)]
    exact congrArg (k0_pay32 · x6 x2 x7 x3) (View.ld_unit_lit (S := S512x4096) inb_S512x4096_S512x4096_0_0 (View.canon (hidPieces x0 x1 x4 x5)) (by decide))

  isplitl [H9]
  · iexists _; isplitr; swap; · iexact H9
    ipureintro
    first | exact harg10.read_unread _ | skip

  iexists _, _; isplitr; swap; · iexact HS
  ipureintro; rfl

end Cert.Kernel2Ideal.Moe

end
-- ==== Proof.MoeRunB.lean ====
module

public import proofs.«01_k».proof.Proof.Gen.Kernel2Ideal.Frame
public import proofs.«01_k».proof.Proof.MoeRun
public import Idealize.ShloMosaic.Lib.VecWindow
public import Idealize.ShloMosaic.Lib.Pipeline.ValueKit.Acc

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- One point of the expert call, second output group stored. -/
theorem runB (c : Dev nD) (i : grid0.Coords) (arg1 : Memref sig .tc .vmem S512x1024 .bf16) (harg1 : arg1.IsWhole) (arg2 : Memref sig .tc .vmem S512x128 .f32) (harg2 : arg2.IsWhole) (arg3 : Memref sig .tc .vmem S512x1024 .f32) (harg3 : arg3.IsWhole) (arg4 : Memref sig .tc .vmem S1x8x1024 .f32) (harg4 : arg4.IsWhole) (arg5 : Memref sig .tc .vmem S1x16x1024x256 .bf16) (harg5 : arg5.IsWhole) (arg6 : Memref sig .tc .vmem S1x16x1024x256 .bf16) (harg6 : arg6.IsWhole) (arg7 : Memref sig .tc .vmem S1x4096x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x4096 .bf16) (harg11 : arg11.IsWhole) (hc1 : ¬ k0_cond1 i = 1#1) (hc2 : k0_cond2 i = 1#1) (x0 : Vec F S512x1024 .bf16) (x1 : Vec F S512x128 .f32) (x2 : Vec F S512x1024 .f32) (x3 : Vec F S1x8x1024 .f32) (x4 : Vec F S1x16x1024x256 .bf16) (x5 : Vec F S1x16x1024x256 .bf16) (x6 : Vec F S1x4096x1024 .bf16) (x7 : Vec F S1x1024 .f32) (y8 y9 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare (moeRes x0 x1 x2 x3 x4 x5 x6 x7) ∗ (∃ d, owns (c : Thread nD τ) arg11 fullShare d)) -∗ K ⟨⟩))
      ⊢ wp frame (wpE (defs₀ (F := F)) Variants.none c none) E (cc0_moe i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  simp only [cc0_moe_eq_skeleton]; unfold cc0_moe_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  sl_exec (disch := first | sl_exact hc1 | sl_exact hc2)
  sl_step
  iapply Hk
  isplitl [H0]
  · iexists _; isplitr; swap; · iexact H0
    ipureintro
    first | exact harg1.read_unread _ | skip

  isplitl [H1]
  · iexists _; isplitr; swap; · iexact H1
    ipureintro
    first | exact harg2.read_unread _ | skip

  isplitl [H2]
  · iexists _; isplitr; swap; · iexact H2
    ipureintro
    first | exact harg3.read_unread _ | skip

  isplitl [H3]
  · iexists _; isplitr; swap; · iexact H3
    ipureintro
    first | exact harg4.read_unread _ | skip

  isplitl [H4]
  · iexists _; isplitr; swap; · iexact H4
    ipureintro
    first | exact harg5.read_unread _ | skip

  isplitl [H5]
  · iexists _; isplitr; swap; · iexact H5
    ipureintro
    first | exact harg6.read_unread _ | skip

  isplitl [H6]
  · iexists _; isplitr; swap; · iexact H6
    ipureintro
    first | exact harg7.read_unread _ | skip

  isplitl [H7]
  · iexists _; isplitr; swap; · iexact H7
    ipureintro
    first | exact harg8.read_unread _ | skip

  isplitl [H8]
  · iexists _; isplitr; swap; · iexact H8
    ipureintro
    exact harg9.read_unread _
  isplitl [H9]
  · iexists _; isplitr; swap; · iexact H9
    ipureintro
    rw [View.read_writes_full]
    delta runB.sl.r_15
    unfold runB.sl.v341
    rw [View.readCov_eq_canon']
    unfold runB.sl.HS_16
    delta runB.sl.r_14 runB.sl.r_13 runB.sl.r_12 runB.sl.r_11 runB.sl.r_10 runB.sl.r_9 runB.sl.r_8 runB.sl.r_7 runB.sl.r_6 runB.sl.r_5 runB.sl.r_4 runB.sl.r_3 runB.sl.r_2 runB.sl.r_1 runB.sl.r runB.sl.v4
    simp only [View.readAt_eq_ld, harg1.read_unread, harg2.read_unread, harg3.read_unread, harg4.read_unread, harg5.read_unread, harg6.read_unread, harg7.read_unread, harg8.read_unread]
    rw [View.ld_unit_lit (S := S512x1024) inb_S512x1024_S512x1024_0_0 x0 (by decide), View.ld_unit_lit (S := S512x128) inb_S512x128_S512x128_0_0 x1 (by decide), View.ld_unit_lit (S := S512x1024) inb_S512x1024_S512x1024_0_0 x2 (by decide), View.ld_unit_lit (S := S1x4096x1024) inb_S1x4096x1024_S1x4096x1024_0_0_0 x6 (by decide), View.ld_unit_lit (S := S1x1024) inb_S1x1024_S1x1024_0_0 x7 (by decide), View.ld_unit_lit (S := S1x8x1024) inb_S1x8x1024_S1x8x1024_0_0_0 x3 (by decide)]
    exact congrArg (k0_pay32 · x6 x2 x7 x3) (View.ld_unit_lit (S := S512x4096) inb_S512x4096_S512x4096_0_0 (View.canon (hidPieces x0 x1 x4 x5)) (by decide))

  iexists _, _; isplitr; swap; · iexact HS
  ipureintro; rfl

end Cert.Kernel2Ideal.Moe

end
-- ==== Proof.MoeFrame.lean ====
module

public import proofs.«01_k».proof.Proof.MoeRun
public import proofs.«01_k».proof.Proof.MoeRunB
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: the first sixteen points belong to the first result, the last sixteen to the second -/

theorem cond1_iff : ∀ t : Fin cfg0.N, k0_cond1 (grid0.coords t) = 1#1 ↔ t.val < 16 :=
  (by decide +kernel : ∀ t : Fin grid0.N, k0_cond1 (grid0.coords t) = 1#1 ↔ t.val < 16)

theorem cond2_iff : ∀ t : Fin cfg0.N, k0_cond2 (grid0.coords t) = 1#1 ↔ ¬ t.val < 16 :=
  (by decide +kernel : ∀ t : Fin grid0.N, k0_cond2 (grid0.coords t) = 1#1 ↔ ¬ t.val < 16)

theorem idle8_lo {t : Fin cfg0.N} (h : t.val < 16) : cfg0.idle 8 (cfg0.grid.coords t) = false := by
  show (!(k0_cond1 (grid0.coords t) == 1#1)) = false
  rw [(cond1_iff t).mpr h]; rfl
theorem idle8_hi {t : Fin cfg0.N} (h : ¬ t.val < 16) : cfg0.idle 8 (cfg0.grid.coords t) = true := by
  show (!(k0_cond1 (grid0.coords t) == 1#1)) = true
  rw [Bool.not_eq_true', beq_eq_false_iff_ne]; exact fun e => h ((cond1_iff t).mp e)
theorem idle9_lo {t : Fin cfg0.N} (h : t.val < 16) : cfg0.idle 9 (cfg0.grid.coords t) = true := by
  show (!(k0_cond2 (grid0.coords t) == 1#1)) = true
  rw [Bool.not_eq_true', beq_eq_false_iff_ne]; exact fun e => (cond2_iff t).mp e h
theorem idle9_hi {t : Fin cfg0.N} (h : ¬ t.val < 16) : cfg0.idle 9 (cfg0.grid.coords t) = false := by
  show (!(k0_cond2 (grid0.coords t) == 1#1)) = false
  rw [(cond2_iff t).mpr h]; rfl

theorem flush8_iff : ∀ t : Fin cfg0.N, (cfg0.win 8).flush t = true ↔ t.val < 15 ∨ t.val = 31 :=
  (by decide +kernel : ∀ t : Fin grid0.N, win0_8.flush t = true ↔ t.val < 15 ∨ t.val = 31)
theorem flush9_iff : ∀ t : Fin cfg0.N, (cfg0.win 9).flush t = true ↔ 16 ≤ t.val :=
  (by decide +kernel : ∀ t : Fin grid0.N, win0_9.flush t = true ↔ 16 ≤ t.val)

/-! ## The proof data -/

/-- The result block of the points' inputs at point `t`. -/
def resAt (c : Dev nD) (t : Fin cfg0.N) : Vec F S512x1024 .f32 :=
  moeRes (iblk m c 0 t) (iblk m c 1 t) (iblk m c 2 t) (iblk m c 3 t) (iblk m c 4 t) (iblk m c 5 t) (iblk m c 6 t) (iblk m c 7 t)

/-- The point whose result the first output's buffer holds after point `t`: `t` itself, and 15 from there on. -/
def lastLo (t : Fin cfg0.N) : Fin cfg0.N := ⟨min t.val 15, lt_of_le_of_lt (Nat.min_le_left _ _) t.isLt⟩

/-- What every buffer holds after each point: the inputs their blocks, the two outputs their last result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resAt m c (lastLo t)
    | ⟨9, _⟩ => resAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = resAt m c (lastLo t) := by dsimp only [dats]
theorem after0_9 (c : Dev nD) (t : Fin cfg0.N) : (dats m 0 c).after 9 t = resAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem lastLo_lo {t : Fin cfg0.N} (h : t.val < 16) : lastLo t = t := Fin.ext (by simp only [lastLo]; omega)
theorem lastLo_succ {s t : Fin cfg0.N} (hs : s.val + 1 = t.val) (h : ¬ t.val < 16) : lastLo s = lastLo t :=
  Fin.ext (by simp only [lastLo]; omega)

/-- From point 16 on the first output's buffer keeps what point 15 left in it. -/
theorem before0_8_hi (c : Dev nD) : ∀ (n : ℕ) (hn : n < cfg0.N) (h : ¬ n < 16) (d),
    (dats m 0 c).before 8 ⟨n, hn⟩ d = resAt m c (lastLo ⟨n, hn⟩) := by
  intro n
  induction n with
  | zero => intro hn h; exact absurd (Nat.zero_lt_succ _) h
  | succ k ih =>
    intro hn h d
    have hN : k + 1 < 32 := lt_of_lt_of_eq hn (show cfg0.N = 32 from N_0)
    rw [Dat.before_of_pos (dats m 0 c) 8 ⟨k + 1, hn⟩ (Nat.succ_ne_zero k) rfl d]
    have hf : (cfg0.win 8).flush ⟨k, Nat.lt_of_succ_lt hn⟩ = false := by
      rw [Bool.eq_false_iff]; intro e; have := (flush8_iff _).mp e; simp only at this; omega
    rw [show (⟨(⟨k + 1, hn⟩ : Fin cfg0.N).val - 1, _⟩ : Fin cfg0.N) = ⟨k, Nat.lt_of_succ_lt hn⟩ from rfl, hf, if_neg Bool.false_ne_true]
    rw [← lastLo_succ (s := ⟨k, Nat.lt_of_succ_lt hn⟩) (t := ⟨k + 1, hn⟩) rfl h]
    unfold Dat.left
    by_cases hk : k < 16
    · rw [idle8_lo (t := ⟨k, Nat.lt_of_succ_lt hn⟩) hk]
      exact after0_8 m c _
    · rw [idle8_hi (t := ⟨k, Nat.lt_of_succ_lt hn⟩) hk]
      exact ih _ hk d

/-! ## The staging memrefs and the scratch -/

abbrev ms0_0 (t : Fin cfg0.N) : Memref sig .tc .vmem S512x1024 .bf16 := win0_0.stage (cfg0.slots t 0)
abbrev ms0_1 (t : Fin cfg0.N) : Memref sig .tc .vmem S512x128 .f32 := win0_1.stage (cfg0.slots t 1)
abbrev ms0_2 (t : Fin cfg0.N) : Memref sig .tc .vmem S512x1024 .f32 := win0_2.stage (cfg0.slots t 2)
abbrev ms0_3 (t : Fin cfg0.N) : Memref sig .tc .vmem S1x8x1024 .f32 := win0_3.stage (cfg0.slots t 3)
abbrev ms0_4 (t : Fin cfg0.N) : Memref sig .tc .vmem S1x16x1024x256 .bf16 := win0_4.stage (cfg0.slots t 4)
abbrev ms0_5 (t : Fin cfg0.N) : Memref sig .tc .vmem S1x16x1024x256 .bf16 := win0_5.stage (cfg0.slots t 5)
abbrev ms0_6 (t : Fin cfg0.N) : Memref sig .tc .vmem S1x4096x1024 .bf16 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S512x1024 .f32 := win0_8.stage (cfg0.slots t 8)
abbrev ms0_9 (t : Fin cfg0.N) : Memref sig .tc .vmem S512x1024 .f32 := win0_9.stage (cfg0.slots t 9)
abbrev scM : Memref sig .tc .vmem S512x4096 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The body obligation -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- How the body leaves output 0's buffer at point `t`: as it found it at a point that stores nothing there and does
    not write it back, else at the proof data's contents. -/
def leave8 (c : Dev nD) (t : Fin cfg0.N) : sProp 𝕄 :=
  (match cfg0.idle 8 (cfg0.grid.coords t) with
        | true =>
          match (cfg0.win 8).flush t with
          | false => iprop(∃ d, owns (c : Thread nD τ) ((cfg0.win 8).stage (cfg0.slots t 8)) fullShare ((dats m 0 c).before 8 t d))
          | true => owns (c : Thread nD τ) ((cfg0.win 8).stage (cfg0.slots t 8)) fullShare ((dats m 0 c).after 8 t)
        | false => owns (c : Thread nD τ) ((cfg0.win 8).stage (cfg0.slots t 8)) fullShare ((dats m 0 c).after 8 t))

/-- How the body leaves output 1's buffer at point `t`: as it found it at a point that stores nothing there and does
    not write it back, else at the proof data's contents. -/
def leave9 (c : Dev nD) (t : Fin cfg0.N) : sProp 𝕄 :=
  (match cfg0.idle 9 (cfg0.grid.coords t) with
        | true =>
          match (cfg0.win 9).flush t with
          | false => iprop(∃ d, owns (c : Thread nD τ) ((cfg0.win 9).stage (cfg0.slots t 9)) fullShare ((dats m 0 c).before 9 t d))
          | true => owns (c : Thread nD τ) ((cfg0.win 9).stage (cfg0.slots t 9)) fullShare ((dats m 0 c).after 9 t)
        | false => owns (c : Thread nD τ) ((cfg0.win 9).stage (cfg0.slots t 9)) fullShare ((dats m 0 c).after 9 t))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ leave8 m c t ∗ leave9 m c t)

theorem leave8_lo (c : Dev nD) (t : Fin cfg0.N) (h : t.val < 16) :
    leave8 m c t = owns (c : Thread nD τ) (ms0_8 t) fullShare (resAt m c t) := by
  unfold leave8; rw [idle8_lo h]; show owns _ _ _ ((dats m 0 c).after 8 t) = _; rw [after0_8, lastLo_lo h]
theorem leave9_hi (c : Dev nD) (t : Fin cfg0.N) (h : ¬ t.val < 16) :
    leave9 m c t = owns (c : Thread nD τ) (ms0_9 t) fullShare (resAt m c t) := by
  unfold leave9; rw [idle9_hi h]; show owns _ _ _ ((dats m 0 c).after 9 t) = _; rw [after0_9]
theorem leave9_lo (c : Dev nD) (t : Fin cfg0.N) (h : t.val < 16) :
    leave9 m c t = iprop(∃ d, owns (c : Thread nD τ) (ms0_9 t) fullShare ((dats m 0 c).before 9 t d)) := by
  have hf : (cfg0.win 9).flush t = false := by
    rw [Bool.eq_false_iff]; intro e; have := (flush9_iff _).mp e; omega
  unfold leave9; rw [idle9_lo h, hf]
/-- Idle points keep the first output's buffer at point 15's result, written back or not. -/
theorem leave8_hi (c : Dev nD) (t : Fin cfg0.N) (h : ¬ t.val < 16) :
    owns (c : Thread nD τ) (ms0_8 t) fullShare (resAt m c (lastLo t)) ⊢ leave8 m c t := by
  unfold leave8; rw [idle8_hi h]
  cases (cfg0.win 8).flush t
  · show _ ⊢ iprop(∃ d, owns (c : Thread nD τ) (ms0_8 t) fullShare ((dats m 0 c).before 8 t d))
    iintro H; iexists (resAt m c (lastLo t)); rw [before0_8_hi m c t.val t.isLt h]; iexact H
  · show _ ⊢ owns (c : Thread nD τ) (ms0_8 t) fullShare ((dats m 0 c).after 8 t)
    rw [after0_8]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  by_cases h : t.val < 16
  · rw [leave8_lo m c t h, leave9_lo m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _  _ _ ((cond1_iff t).mpr h) (fun e => (cond2_iff t).mp e h) (iblk m c 0 t) (iblk m c 1 t) (iblk m c 2 t) (iblk m c 3 t) (iblk m c 4 t) (iblk m c 5 t) (iblk m c 6 t) (iblk m c 7 t) ((dats m 0 c).before 8 t d8) ((dats m 0 c).before 9 t d9))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · rw [leave9_hi m c t h]
    simp only [show ∀ d, (dats m 0 c).before 8 t d = resAt m c (lastLo t) from fun d => before0_8_hi m c t.val t.isLt h d]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _  _ _ (fun e => h ((cond1_iff t).mp e)) ((cond2_iff t).mpr h) (iblk m c 0 t) (iblk m c 1 t) (iblk m c 2 t) (iblk m c 3 t) (iblk m c 4 t) (iblk m c 5 t) (iblk m c 6 t) (iblk m c 7 t) (resAt m c (lastLo t)) ((dats m 0 c).before 9 t d9))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leave8_hi m c t h); iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)
    (hQ' := fun _ h => h)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.Kernel2Ideal.Moe

end
-- ==== Proof.MoeSpec.lean ====
module

public import Idealize.ShloMosaic.Lib.Pointwise
public import Idealize.ShloMosaic.Lib.Pipeline.ValueKit

@[expose] public section

set_option maxRecDepth 16384

noncomputable section

namespace Cert.Moe

open Idealize.ShloMosaic

/-- One lane of one expert's hidden row: the gated product, weighted by the token's gate for the expert. -/
def hid (h : Fin 1024 → EReal) (g : EReal) (wg wu : Fin 1024 → EReal) : EReal :=
  (∑ x, h x * wg x) * Ideal.logistic (∑ x, h x * wg x) * (∑ x, h x * wu x) * g

/-- The experts' summed output of one token at one channel. -/
def out (h : Fin 1024 → EReal) (g : Fin 16 → EReal) (wg wu : Fin 16 → Fin 1024 → Fin 256 → EReal)
    (wd : Fin 16 → Fin 256 → Fin 1024 → EReal) (d : Fin 1024) : EReal :=
  ∑ e : Fin 16, ∑ f : Fin 256, hid h (g e) (fun x => wg e x f) (fun x => wu e x f) * wd e f d

/-- One token's row after the norm and the gated residual: `x` its residual, `a` its adaptive gate, `o` the experts' output. -/
def row (o x a np : Fin 1024 → EReal) (d : Fin 1024) : EReal :=
  x d + o d * Ideal.rsqrt (Ideal.div (∑ y, o y * o y) (Ideal.ofBits FTy.f32 1149239296#32) + Ideal.ofBits FTy.f32 897988541#32) * (np d * a d)

end Cert.Moe

end
-- ==== Proof.MoePure.lean ====
module

public import proofs.«01_k».proof.Proof.MoeRun
public import proofs.«01_k».proof.Proof.MoeSpec

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

/-- The gate of expert `e`, picked out of the 128 lanes by comparing lane numbers. -/
theorem pick (g : Fin 128 → EReal) (e : Fin 16) :
    (∑ l : Fin 128, Scalar.select (IntOp.cmpi CmpIPredicate.eq (BitVec.ofNat 32 l.val) (BitVec.ofNat 32 e.val)) (g l) (0 : EReal))
      = g (Fin.castLE (by decide) e) := by
  rw [Finset.sum_eq_single (Fin.castLE (by decide) e : Fin 128)]
  · exact if_pos (IntOp.cmpi_eq.mpr rfl)
  · intro l _ hl
    have h : ¬ IntOp.cmpi CmpIPredicate.eq (BitVec.ofNat 32 l.val) (BitVec.ofNat 32 e.val) = 1#1 := fun h => by
      have := congrArg BitVec.toNat (IntOp.cmpi_eq.mp h)
      rw [BitVec.toNat_ofNat, BitVec.toNat_ofNat] at this
      exact hl (Fin.ext (by show l.val = e.val; omega))
    exact if_neg h
  · exact fun h => absurd (Finset.mem_univ _) h

theorem hidE_at (e : Fin 16) (v0 : FVec Ideal S512x1024 .bf16) (v2 : FVec Ideal S512x128 .f32) (v11 v16 : FVec Ideal S1x1x1024x256 .bf16)
    (r : Fin 512) (f : Fin 256) :
    hidE (F := Ideal) (BitVec.ofNat 32 e.val) v0 v2 v11 v16 (ix2 r f)
      = Cert.Moe.hid (fun x => v0 (ix2 r x)) (v2 (ix2 r (Fin.castLE (by decide) e))) (fun x => v11 (ix4 0 0 x f)) (fun x => v16 (ix4 0 0 x f)) := by
  have := pick (fun l => v2 (ix2 r l)) e
  unfold Cert.Moe.hid
  rw [← this]
  pointwise [hidE, k0_pay1, k0_pay2]

theorem piece_idx {x : S512x256.Idx} {r : Fin 512} {f : Fin 256} (h0 : (x 0).val = r.val) (h1 : (x 1).val = f.val) : x = ix2 r f := by
  funext a
  match a with
  | ⟨0, _⟩ => exact Fin.ext h0
  | ⟨1, _⟩ => exact Fin.ext h1

theorem moeHid_at (x0 : FVec Ideal S512x1024 .bf16) (x1 : FVec Ideal S512x128 .f32) (x4 x5 : FVec Ideal S1x16x1024x256 .bf16)
    (r : Fin 512) (e : Fin 16) (f : Fin 256) :
    moeHid (F := Ideal) x0 x1 x4 x5 (ix2 r ⟨e.val * 256 + f.val, by omega⟩)
      = Cert.Moe.hid (fun x => x0 (ix2 r x)) (x1 (ix2 r (Fin.castLE (by decide) e))) (fun x => x4 (ix4 0 e x f)) (fun x => x5 (ix4 0 e x f)) := by
  unfold moeHid hidPieces
  canon_tiles x h
  all_goals change r.val = (x 0).val at h0
  · change e.val * 256 + f.val = 3840 + (x 1).val at h1
    obtain rfl : e = 15 := Fin.ext (by show e.val = 15; omega)
    obtain rfl : x = ix2 r f := piece_idx h0.symm (by omega)
    exact (hidE_at 15 _ _ _ _ r f).trans (by pointwise [Cert.Moe.hid])
  · change e.val * 256 + f.val = 3584 + (x 1).val at h1
    obtain rfl : e = 14 := Fin.ext (by show e.val = 14; omega)
    obtain rfl : x = ix2 r f := piece_idx h0.symm (by omega)
    exact (hidE_at 14 _ _ _ _ r f).trans (by pointwise [Cert.Moe.hid])
  · change e.val * 256 + f.val = 3328 + (x 1).val at h1
    obtain rfl : e = 13 := Fin.ext (by show e.val = 13; omega)
    obtain rfl : x = ix2 r f := piece_idx h0.symm (by omega)
    exact (hidE_at 13 _ _ _ _ r f).trans (by pointwise [Cert.Moe.hid])
  · change e.val * 256 + f.val = 3072 + (x 1).val at h1
    obtain rfl : e = 12 := Fin.ext (by show e.val = 12; omega)
    obtain rfl : x = ix2 r f := piece_idx h0.symm (by omega)
    exact (hidE_at 12 _ _ _ _ r f).trans (by pointwise [Cert.Moe.hid])
  · change e.val * 256 + f.val = 2816 + (x 1).val at h1
    obtain rfl : e = 11 := Fin.ext (by show e.val = 11; omega)
    obtain rfl : x = ix2 r f := piece_idx h0.symm (by omega)
    exact (hidE_at 11 _ _ _ _ r f).trans (by pointwise [Cert.Moe.hid])
  · change e.val * 256 + f.val = 2560 + (x 1).val at h1
    obtain rfl : e = 10 := Fin.ext (by show e.val = 10; omega)
    obtain rfl : x = ix2 r f := piece_idx h0.symm (by omega)
    exact (hidE_at 10 _ _ _ _ r f).trans (by pointwise [Cert.Moe.hid])
  · change e.val * 256 + f.val = 2304 + (x 1).val at h1
    obtain rfl : e = 9 := Fin.ext (by show e.val = 9; omega)
    obtain rfl : x = ix2 r f := piece_idx h0.symm (by omega)
    exact (hidE_at 9 _ _ _ _ r f).trans (by pointwise [Cert.Moe.hid])
  · change e.val * 256 + f.val = 2048 + (x 1).val at h1
    obtain rfl : e = 8 := Fin.ext (by show e.val = 8; omega)
    obtain rfl : x = ix2 r f := piece_idx h0.symm (by omega)
    exact (hidE_at 8 _ _ _ _ r f).trans (by pointwise [Cert.Moe.hid])
  · change e.val * 256 + f.val = 1792 + (x 1).val at h1
    obtain rfl : e = 7 := Fin.ext (by show e.val = 7; omega)
    obtain rfl : x = ix2 r f := piece_idx h0.symm (by omega)
    exact (hidE_at 7 _ _ _ _ r f).trans (by pointwise [Cert.Moe.hid])
  · change e.val * 256 + f.val = 1536 + (x 1).val at h1
    obtain rfl : e = 6 := Fin.ext (by show e.val = 6; omega)
    obtain rfl : x = ix2 r f := piece_idx h0.symm (by omega)
    exact (hidE_at 6 _ _ _ _ r f).trans (by pointwise [Cert.Moe.hid])
  · change e.val * 256 + f.val = 1280 + (x 1).val at h1
    obtain rfl : e = 5 := Fin.ext (by show e.val = 5; omega)
    obtain rfl : x = ix2 r f := piece_idx h0.symm (by omega)
    exact (hidE_at 5 _ _ _ _ r f).trans (by pointwise [Cert.Moe.hid])
  · change e.val * 256 + f.val = 1024 + (x 1).val at h1
    obtain rfl : e = 4 := Fin.ext (by show e.val = 4; omega)
    obtain rfl : x = ix2 r f := piece_idx h0.symm (by omega)
    exact (hidE_at 4 _ _ _ _ r f).trans (by pointwise [Cert.Moe.hid])
  · change e.val * 256 + f.val = 768 + (x 1).val at h1
    obtain rfl : e = 3 := Fin.ext (by show e.val = 3; omega)
    obtain rfl : x = ix2 r f := piece_idx h0.symm (by omega)
    exact (hidE_at 3 _ _ _ _ r f).trans (by pointwise [Cert.Moe.hid])
  · change e.val * 256 + f.val = 512 + (x 1).val at h1
    obtain rfl : e = 2 := Fin.ext (by show e.val = 2; omega)
    obtain rfl : x = ix2 r f := piece_idx h0.symm (by omega)
    exact (hidE_at 2 _ _ _ _ r f).trans (by pointwise [Cert.Moe.hid])
  · change e.val * 256 + f.val = 256 + (x 1).val at h1
    obtain rfl : e = 1 := Fin.ext (by show e.val = 1; omega)
    obtain rfl : x = ix2 r f := piece_idx h0.symm (by omega)
    exact (hidE_at 1 _ _ _ _ r f).trans (by pointwise [Cert.Moe.hid])
  · change e.val * 256 + f.val = (x 1).val at h1
    obtain rfl : e = 0 := Fin.ext (by show e.val = 0; omega)
    obtain rfl : x = ix2 r f := piece_idx h0.symm (by omega)
    exact (hidE_at 0 _ _ _ _ r f).trans (by pointwise [Cert.Moe.hid])

theorem pay32_at (v341 : FVec Ideal S512x4096 .bf16) (v342 : FVec Ideal S1x4096x1024 .bf16) (v345 : FVec Ideal S512x1024 .f32) (v346 : FVec Ideal S1x1024 .f32) (v348 : FVec Ideal S1x8x1024 .f32)  (r : Fin 512) (f : Fin 1024) :
    k0_pay32 (F := Ideal) v341 v342 v345 v346 v348 (ix2 r f)
      = Cert.Moe.row (fun d => ∑ k, v341 (ix2 r k) * v342 (ix3 0 k d)) (fun d => v345 (ix2 r d)) (fun d => v348 (ix3 0 5 d)) (fun d => v346 (ix2 0 d)) f := by
  unfold Cert.Moe.row
  pointwise [k0_pay32]

theorem moeRes_at (x0 : FVec Ideal S512x1024 .bf16) (x1 : FVec Ideal S512x128 .f32) (x2 : FVec Ideal S512x1024 .f32) (x3 : FVec Ideal S1x8x1024 .f32)
    (x4 x5 : FVec Ideal S1x16x1024x256 .bf16) (x6 : FVec Ideal S1x4096x1024 .bf16) (x7 : FVec Ideal S1x1024 .f32) (r : Fin 512) (f : Fin 1024) :
    moeRes (F := Ideal) x0 x1 x2 x3 x4 x5 x6 x7 (ix2 r f)
      = Cert.Moe.row (Cert.Moe.out (fun x => x0 (ix2 r x)) (fun e => x1 (ix2 r (Fin.castLE (by decide) e))) (fun e x f => x4 (ix4 0 e x f))
          (fun e x f => x5 (ix4 0 e x f)) (fun e f d => x6 (ix3 0 ⟨e.val * 256 + f.val, by omega⟩ d)))
          (fun d => x2 (ix2 r d)) (fun d => x3 (ix3 0 5 d)) (fun d => x7 (ix2 0 d)) f := by
  unfold moeRes
  rw [pay32_at]
  refine congrArg (fun o => Cert.Moe.row o _ _ _ f) ?_
  funext d
  unfold Cert.Moe.out
  rw [Fin.sum_univ_tiles 16 256 rfl]
  refine Finset.sum_congr rfl fun e _ => Finset.sum_congr rfl fun f _ => ?_
  rw [moeHid_at x0 x1 x4 x5 r e f]

end Cert.Kernel2Ideal.Moe

end
-- ==== Proof.MoeRef.lean ====
module

public import proofs.«01_k».proof.Proof.Gen.Reference2Ideal.Run
public import proofs.«01_k».proof.Proof.MoeSpec

@[expose] public section

set_option maxRecDepth 16384

noncomputable section

namespace Cert.Reference2Ideal.Moe

open Idealize.ShloMosaic Idealize.ShloMosaic.TcCoe Idealize.SL.Sem
open Cert.Reference2Ideal Cert.Reference2Ideal.Gen

/-- The experts' summed output, before the norm. -/
def refOut (h2 : FVec Ideal S16384x1024 .f32) (gate : FVec Ideal S16384x16 .f32) (wg wu : FVec Ideal S16x1024x256 .f32) (wd : FVec Ideal S16x256x1024 .f32) : FVec Ideal S16384x1024 .f32 :=
  Host.dotGeneral dot_S16384x16x256_S16x256x1024_S16384x1024_12_01_0_2_n_n none (mulf (mulf (mulf (Host.dotGeneral dot_S16384x1024_S16x1024x256_S16384x16x256_1_1_0_02_n_n none h2 wg) (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf (Host.dotGeneral dot_S16384x1024_S16x1024x256_S16384x16x256_1_1_0_02_n_n none h2 wg)))))) (Host.dotGeneral dot_S16384x1024_S16x1024x256_S16384x16x256_1_1_0_02_n_n none h2 wu)) (broadcastInDim S16384x16x256 ![0, 1, 2] bcast_S16384x16x1_S16384x16x256_0_1_2 (broadcastInDim S16384x16x1 ![0, 1] bcast_S16384x16_S16384x16x1_0_1 gate))) wd

/-- The experts' output after the norm. -/
def refNorm (o : FVec Ideal S16384x1024 .f32) (np : FVec Ideal S1024 .f32) : FVec Ideal S16384x1024 .f32 :=
  mulf (mulf o (broadcastInDim S16384x1024 ![0, 1] bcast_S16384x1_S16384x1024_0_1 (Host.rsqrt (addf (Host.divf (broadcastInDim S16384x1 ![0] bcast_S16384_S16384x1_0 (Host.reduceAdd (mulf o o) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 np))

/-- The prompt half of the result. -/
def refLo (x1 : FVec Ideal S16384x1024 .f32) (ac : FVec Ideal S1x6144 .f32) (y : FVec Ideal S16384x1024 .f32) : FVec Ideal S8192x1024 .f32 :=
  addf (extractStridedSlice S8192x1024 ![0, 0] x1 slices_S16384x1024_S8192x1024_0_0) (mulf (broadcastInDim S8192x1024 ![0, 1] bcast_S1x1024_S8192x1024_0_1 (extractStridedSlice S1x1024 ![0, 5120] ac slices_S1x6144_S1x1024_0_5120)) (extractStridedSlice S8192x1024 ![0, 0] y slices_S16384x1024_S8192x1024_0_0))

/-- The sample half of the result. -/
def refHi (x1 : FVec Ideal S16384x1024 .f32) (al : FVec Ideal S2x6144 .f32) (y : FVec Ideal S16384x1024 .f32) : FVec Ideal S8192x1024 .f32 :=
  shapeCast _ (addf (shapeCast _ (extractStridedSlice S8192x1024 ![8192, 0] x1 slices_S16384x1024_S8192x1024_8192_0) shapeCasts_S8192x1024_S2x4096x1024) (mulf (broadcastInDim S2x4096x1024 ![0, 1, 2] bcast_S2x1x1024_S2x4096x1024_0_1_2 (broadcastInDim S2x1x1024 ![0, 2] bcast_S2x1024_S2x1x1024_0_2 (extractStridedSlice S2x1024 ![0, 5120] al slices_S2x6144_S2x1024_0_5120))) (shapeCast _ (extractStridedSlice S8192x1024 ![8192, 0] y slices_S16384x1024_S8192x1024_8192_0) shapeCasts_S8192x1024_S2x4096x1024))) shapeCasts_S2x4096x1024_S8192x1024

theorem refOut_at (h2 : FVec Ideal S16384x1024 .f32) (gate : FVec Ideal S16384x16 .f32) (wg wu : FVec Ideal S16x1024x256 .f32) (wd : FVec Ideal S16x256x1024 .f32) (t : Fin 16384) (d : Fin 1024) :
    refOut h2 gate wg wu wd (ix2 t d) = Cert.Moe.out (fun x => h2 (ix2 t x)) (fun e => gate (ix2 t e)) (fun e x f => wg (ix3 e x f))
      (fun e x f => wu (ix3 e x f)) (fun e f d => wd (ix3 e f d)) d := by
  unfold Cert.Moe.out Cert.Moe.hid Ideal.logistic
  pointwise [refOut]

theorem refNorm_at (o : FVec Ideal S16384x1024 .f32) (np : FVec Ideal S1024 .f32) (t : Fin 16384) (d : Fin 1024) :
    refNorm o np (ix2 t d) = o (ix2 t d) * Ideal.rsqrt (Ideal.div (∑ y, o (ix2 t y) * o (ix2 t y)) (Ideal.ofBits FTy.f32 1149239296#32) + Ideal.ofBits FTy.f32 897988541#32) * np (ix1 d) := by
  pointwise [refNorm]

theorem refLo_at (x1 : FVec Ideal S16384x1024 .f32) (ac : FVec Ideal S1x6144 .f32) (y : FVec Ideal S16384x1024 .f32) (t : Fin 8192) (d : Fin 1024) :
    refLo x1 ac y (ix2 t d) = x1 (ix2 ⟨t.val, by omega⟩ d) + ac (ix2 0 ⟨5120 + d.val, by omega⟩) * y (ix2 ⟨t.val, by omega⟩ d) := by
  pointwise [refLo]

theorem refHi_at (x1 : FVec Ideal S16384x1024 .f32) (al : FVec Ideal S2x6144 .f32) (y : FVec Ideal S16384x1024 .f32) (t : Fin 8192) (d : Fin 1024) :
    refHi x1 al y (ix2 t d) = x1 (ix2 ⟨8192 + t.val, by omega⟩ d) + al (ix2 ⟨t.val / 4096, by omega⟩ ⟨5120 + d.val, by omega⟩) * y (ix2 ⟨8192 + t.val, by omega⟩ d) := by
  pointwise [refHi]

theorem res0_eq (m : (ℓ : Loc nD τ sig) → Buf (Elt Ideal) ℓ) (c : Dev nD) :
    Value.res_out0 m c = refLo (m ((c.tc : Thread nD τ).loc main_arg2)) (m ((c.tc : Thread nD τ).loc main_arg3))
      (refNorm (refOut (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8))) := rfl
theorem res1_eq (m : (ℓ : Loc nD τ sig) → Buf (Elt Ideal) ℓ) (c : Dev nD) :
    Value.res_out1 m c = refHi (m ((c.tc : Thread nD τ).loc main_arg2)) (m ((c.tc : Thread nD τ).loc main_arg4))
      (refNorm (refOut (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8))) := rfl

end Cert.Reference2Ideal.Moe

end
-- ==== Proof.MoeV.lean ====
module

public import proofs.«01_k».proof.Proof.MoeFrame
public import proofs.«01_k».proof.Proof.MoePure
public import proofs.«01_k».proof.Proof.MoeRef
public import Idealize.ShloMosaic.Lib.Routing.Ops

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable (m : (ℓ : Loc nD τ sig) → Buf (Elt Ideal) ℓ)

/-! ## Where the blocks lie -/

theorem idx : ∀ t : Fin cfg0.N, win0_0.index t = ![t.val, 0] ∧ win0_1.index t = ![t.val, 0] ∧ win0_2.index t = ![t.val, 0]
    ∧ win0_3.index t = ![2 * t.val, 0, 0] ∧ win0_4.index t = ![0, 0, 0, 0] ∧ win0_5.index t = ![0, 0, 0, 0] ∧ win0_6.index t = ![0, 0, 0]
    ∧ win0_7.index t = ![0, 0] ∧ win0_8.index t = ![min t.val 15, 0] ∧ win0_9.index t = ![t.val - 16, 0] :=
  (by decide +kernel : ∀ t : Fin grid0.N, _)

/-! ## What the region finds -/

/-- The adaptive rows as the kernel takes them: the rows named by each tile, cut into six parts and padded to eight. -/
def adaT (ac : FVec Ideal S1x6144 .f32) (al : FVec Ideal S2x6144 .f32) : FVec Ideal S64x8x1024 .f32 :=
  pad S64x8x1024 ![0, 0, 0] ![0, 2, 0] ![0, 0, 0] (shapeCast S64x6x1024 (Host.gather gather_S8x6144_S64x1_S64x6144_1_0_n_n_0_1_16144
    (concatenate S8x6144 0 [⟨S1x6144, ac⟩, ⟨S2x6144, al⟩, ⟨S5x6144, broadcastInDim S5x6144 ![] bcast_S_S5x6144 (constant (F := Ideal) S_ .f32 0x00000000#32)⟩] concatenates_S1x6144_S2x6144_S5x6144_S8x6144_d0)
    (broadcastInDim S64x1 ![0] bcast_S64_S64x1_0 (select (constantI S64 1 0#1) (addi (fun i => lit0 (S64.rowMajor i)) (broadcastInDim S64 ![] bcast_S_S64 (constantI S_ 32 8#32))) (fun i => lit0 (S64.rowMajor i)))))
    shapeCasts_S64x6144_S64x6x1024) (sitofp (F := Ideal) .f32 (constantI S_ 32 0#32)) pads_S64x6x1024_S64x8x1024_000_020_000 h_S_

theorem V_v13 (c : Dev nD) : V m c main_v13 = (show FVec Ideal S16384x1024 .bf16 from truncf (F := Ideal) .bf16 (φ := .f32) (s := S16384x1024) (m ((c.tc : Thread nD τ).loc main_arg0)) bitsLt_bf16_f32) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v9 (c : Dev nD) : V m c main_v9 = (show FVec Ideal S16384x128 .f32 from pad S16384x128 ![0, 0] ![0, 112] ![0, 0] (s := S16384x16) (show FVec Ideal S16384x16 .f32 from (m ((c.tc : Thread nD τ).loc main_arg1))) (sitofp (F := Ideal) .f32 (constantI S_ 32 0#32)) pads_S16384x16_S16384x128_000_01120 h_S_) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v14 (c : Dev nD) : V m c main_v14 = (show FVec Ideal S1x16x1024x256 .bf16 from broadcastInDim S1x16x1024x256 ![1, 2, 3] bcast_S16x1024x256_S1x16x1024x256_1_2_3 (truncf (F := Ideal) .bf16 (φ := .f32) (m ((c.tc : Thread nD τ).loc main_arg5)) bitsLt_bf16_f32)) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v15 (c : Dev nD) : V m c main_v15 = (show FVec Ideal S1x16x1024x256 .bf16 from broadcastInDim S1x16x1024x256 ![1, 2, 3] bcast_S16x1024x256_S1x16x1024x256_1_2_3 (truncf (F := Ideal) .bf16 (φ := .f32) (m ((c.tc : Thread nD τ).loc main_arg6)) bitsLt_bf16_f32)) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v18 (c : Dev nD) : V m c main_v18 = (show FVec Ideal S1x4096x1024 .bf16 from shapeCast _ (broadcastInDim S1x16x256x1024 ![1, 2, 3] bcast_S16x256x1024_S1x16x256x1024_1_2_3 (truncf (F := Ideal) .bf16 (φ := .f32) (m ((c.tc : Thread nD τ).loc main_arg7)) bitsLt_bf16_f32)) shapeCasts_S1x16x256x1024_S1x4096x1024) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v17 (c : Dev nD) : V m c main_v17 = (show FVec Ideal S1x1024 .f32 from shapeCast _ (show FVec Ideal S1024 .f32 from (m ((c.tc : Thread nD τ).loc main_arg8))) shapeCasts_S1024_S1x1024) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem V_v8 (c : Dev nD) : V m c main_v8 = (show FVec Ideal S64x8x1024 .f32 from adaT (m ((c.tc : Thread nD τ).loc main_arg3)) (m ((c.tc : Thread nD τ).loc main_arg4))) := by
  simp only [V, hostOps0, hostOps0_1, hostOps0_2, hostOps0_3, hostOps0_4, List.flatten_cons, List.flatten_nil, List.append_nil, List.cons_append, List.nil_append]
  simp only [StableHlo.after_cons, StableHlo.after_nil, StableHlo.TRef.binary, StableHlo.TRef.nullary, StableHlo.TRef.unary, StableHlo.TRef.toBuf, StableHlo.TRef.ofBuf, cast_eq]
  after_results_simp
  all_goals rfl

theorem in0 (c : Dev nD) (t : Fin cfg0.N) (r : Fin 512) (x : Fin 1024) :
    iblk m c 0 t (ix2 r x) = m ((c.tc : Thread nD τ).loc main_arg0) (ix2 ⟨512 * t.val + r.val, by have : t.val < 32 := t.isLt; omega⟩ x) := by
  have h : (((cfg0.win 0).blk t).view.emb (ix2 r x) : (S16384x1024).Idx) = (ix2 ⟨512 * t.val + r.val, by have : t.val < 32 := t.isLt; omega⟩ x) := by
    blk_ext [idx t]
  unfold iblk
  show V m c main_v13 (((cfg0.win 0).blk t).view.emb (ix2 r x)) = _
  rw [V_v13, h]
  pointwise []

theorem in1 (c : Dev nD) (t : Fin cfg0.N) (r : Fin 512) (e : Fin 16) :
    iblk m c 1 t (ix2 r (Fin.castLE (by decide) e)) = m ((c.tc : Thread nD τ).loc main_arg1) (ix2 ⟨512 * t.val + r.val, by have : t.val < 32 := t.isLt; omega⟩ e) := by
  have h : (((cfg0.win 1).blk t).view.emb (ix2 r (Fin.castLE (by decide) e)) : (S16384x128).Idx) = (ix2 ⟨512 * t.val + r.val, by have : t.val < 32 := t.isLt; omega⟩ (Fin.castLE (by decide) e)) := by
    blk_ext [idx t]
  unfold iblk
  show V m c main_v9 (((cfg0.win 1).blk t).view.emb (ix2 r (Fin.castLE (by decide) e))) = _
  rw [V_v9, h]
  pointwise []
  rw [dif_pos ⟨by have : t.val < 32 := t.isLt; omega, e.isLt⟩]
  rfl

theorem in4 (c : Dev nD) (t : Fin cfg0.N) (e : Fin 16) (x : Fin 1024) (f : Fin 256) :
    iblk m c 4 t (ix4 0 e x f) = m ((c.tc : Thread nD τ).loc main_arg5) (ix3 e x f) := by
  have h : (((cfg0.win 4).blk t).view.emb (ix4 0 e x f) : (S1x16x1024x256).Idx) = (ix4 0 e x f) := by
    blk_ext [idx t]
  unfold iblk
  show V m c main_v14 (((cfg0.win 4).blk t).view.emb (ix4 0 e x f)) = _
  rw [V_v14, h]
  pointwise []

theorem in5 (c : Dev nD) (t : Fin cfg0.N) (e : Fin 16) (x : Fin 1024) (f : Fin 256) :
    iblk m c 5 t (ix4 0 e x f) = m ((c.tc : Thread nD τ).loc main_arg6) (ix3 e x f) := by
  have h : (((cfg0.win 5).blk t).view.emb (ix4 0 e x f) : (S1x16x1024x256).Idx) = (ix4 0 e x f) := by
    blk_ext [idx t]
  unfold iblk
  show V m c main_v15 (((cfg0.win 5).blk t).view.emb (ix4 0 e x f)) = _
  rw [V_v15, h]
  pointwise []

theorem in6 (c : Dev nD) (t : Fin cfg0.N) (e : Fin 16) (f : Fin 256) (d : Fin 1024) :
    iblk m c 6 t (ix3 0 ⟨e.val * 256 + f.val, by omega⟩ d) = m ((c.tc : Thread nD τ).loc main_arg7) (ix3 e f d) := by
  have h : (((cfg0.win 6).blk t).view.emb (ix3 0 ⟨e.val * 256 + f.val, by omega⟩ d) : (S1x4096x1024).Idx) = (ix3 0 ⟨e.val * 256 + f.val, by omega⟩ d) := by
    blk_ext [idx t]
  unfold iblk
  show V m c main_v18 (((cfg0.win 6).blk t).view.emb (ix3 0 ⟨e.val * 256 + f.val, by omega⟩ d)) = _
  rw [V_v18, h]
  pointwise []

theorem in7 (c : Dev nD) (t : Fin cfg0.N) (d : Fin 1024) :
    iblk m c 7 t (ix2 0 d) = m ((c.tc : Thread nD τ).loc main_arg8) (ix1 d) := by
  have h : (((cfg0.win 7).blk t).view.emb (ix2 0 d) : (S1x1024).Idx) = (ix2 0 d) := by
    blk_ext [idx t]
  unfold iblk
  show V m c main_v17 (((cfg0.win 7).blk t).view.emb (ix2 0 d)) = _
  rw [V_v17, h]
  pointwise []

theorem in2 (c : Dev nD) (t : Fin cfg0.N) (r : Fin 512) (x : Fin 1024) :
    iblk m c 2 t (ix2 r x) = m ((c.tc : Thread nD τ).loc main_arg2) (ix2 ⟨512 * t.val + r.val, by have : t.val < 32 := t.isLt; omega⟩ x) := by
  blk_point [iblk, V, idx t]

/-- The eight adaptive rows: the prompt's, the two samples', zeros. -/
def adaRows (ac : FVec Ideal S1x6144 .f32) (al : FVec Ideal S2x6144 .f32) : FVec Ideal S8x6144 .f32 :=
  concatenate S8x6144 0 [⟨S1x6144, ac⟩, ⟨S2x6144, al⟩, ⟨S5x6144, broadcastInDim S5x6144 ![] bcast_S_S5x6144 (constant (F := Ideal) S_ .f32 0x00000000#32)⟩] concatenates_S1x6144_S2x6144_S5x6144_S8x6144_d0

theorem adaRows_0 (ac : FVec Ideal S1x6144 .f32) (al : FVec Ideal S2x6144 .f32) (k : Fin 6144) : adaRows ac al (ix2 0 k) = ac (ix2 0 k) := by
  pointwise [adaRows]
theorem adaRows_1 (ac : FVec Ideal S1x6144 .f32) (al : FVec Ideal S2x6144 .f32) (k : Fin 6144) : adaRows ac al (ix2 1 k) = al (ix2 0 k) := by
  pointwise [adaRows]
theorem adaRows_2 (ac : FVec Ideal S1x6144 .f32) (al : FVec Ideal S2x6144 .f32) (k : Fin 6144) : adaRows ac al (ix2 2 k) = al (ix2 1 k) := by
  pointwise [adaRows]

/-- The row each tile names: the prompt's for the first thirty-two, the samples' for the others. -/
def rowOf (r : Fin 64) : Fin 8 := ⟨if r.val < 32 then 0 else if r.val < 48 then 1 else 2, by split <;> (try split) <;> omega⟩

theorem lit0_eq : ∀ r : Fin 64, lit0 (S64.rowMajor (ix1 r)) = BitVec.ofNat 32 (rowOf r).val := by
  decide +kernel

theorem rowAt (r : Fin 64) : (broadcastInDim S64x1 ![0] bcast_S64_S64x1_0 (select (constantI S64 1 0#1) (addi (fun i => lit0 (S64.rowMajor i)) (broadcastInDim S64 ![] bcast_S_S64 (constantI S_ 32 8#32))) (fun i => lit0 (S64.rowMajor i)))) (ix2 r 0) = BitVec.ofNat 32 (rowOf r).val := by
  pointwise []
  exact lit0_eq r

theorem adaT_at (ac : FVec Ideal S1x6144 .f32) (al : FVec Ideal S2x6144 .f32) (r : Fin 64) (d : Fin 1024) :
    adaT ac al (ix3 r 5 d) = adaRows ac al (ix2 (rowOf r) ⟨5120 + d.val, by omega⟩) := by
  pointwise [adaT]
  exact Routing.gather_row _ rfl rfl rfl rfl rfl _ _ _ _ _ (rowAt r) (by decide)

theorem in3 (c : Dev nD) (t : Fin cfg0.N) (d : Fin 1024) :
    iblk m c 3 t (ix3 0 5 d) = adaT (m ((c.tc : Thread nD τ).loc main_arg3)) (m ((c.tc : Thread nD τ).loc main_arg4)) (ix3 ⟨2 * t.val, by have : t.val < 32 := t.isLt; omega⟩ 5 d) := by
  have h : (((cfg0.win 3).blk t).view.emb (ix3 0 5 d) : (S64x8x1024).Idx) = ix3 ⟨2 * t.val, by have : t.val < 32 := t.isLt; omega⟩ 5 d := by
    blk_ext [idx t]
  unfold iblk
  show V m c main_v8 (((cfg0.win 3).blk t).view.emb (ix3 0 5 d)) = _
  rw [V_v8, h]

theorem in3_lo (c : Dev nD) (t : Fin cfg0.N) (ht : t.val < 16) (d : Fin 1024) :
    iblk m c 3 t (ix3 0 5 d) = m ((c.tc : Thread nD τ).loc main_arg3) (ix2 0 ⟨5120 + d.val, by omega⟩) := by
  rw [in3, adaT_at]
  refine Eq.trans (congrArg (fun q => adaRows _ _ (ix2 q _)) (Fin.ext ?_)) (adaRows_0 _ _ _)
  show (if 2 * t.val < 32 then 0 else if 2 * t.val < 48 then 1 else 2) = 0
  rw [if_pos (by omega)]

theorem in3_hi (c : Dev nD) (t : Fin cfg0.N) (ht : ¬ t.val < 16) (q : Fin 2) (hq : q.val = (t.val - 16) / 8) (d : Fin 1024) :
    iblk m c 3 t (ix3 0 5 d) = m ((c.tc : Thread nD τ).loc main_arg4) (ix2 q ⟨5120 + d.val, by omega⟩) := by
  have : t.val < 32 := t.isLt
  rw [in3, adaT_at]
  by_cases h : t.val < 24
  · obtain rfl : q = 0 := Fin.ext (by show q.val = 0; omega)
    refine Eq.trans (congrArg (fun q => adaRows _ _ (ix2 q _)) (Fin.ext ?_)) (adaRows_1 _ _ _)
    show (if 2 * t.val < 32 then 0 else if 2 * t.val < 48 then 1 else 2) = 1
    rw [if_neg (by omega), if_pos (by omega)]
  · obtain rfl : q = 1 := Fin.ext (by show q.val = 1; omega)
    refine Eq.trans (congrArg (fun q => adaRows _ _ (ix2 q _)) (Fin.ext ?_)) (adaRows_2 _ _ _)
    show (if 2 * t.val < 32 then 0 else if 2 * t.val < 48 then 1 else 2) = 2
    rw [if_neg (by omega), if_neg (by omega)]

end Cert.Kernel2Ideal.Moe

end
-- ==== Proof.MoeValue.lean ====
module

public import proofs.«01_k».proof.Proof.MoeV

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable (m : (ℓ : Loc nD τ sig) → Buf (Elt Ideal) ℓ)

/-- The reference's normed output over the kernel's arguments. -/
abbrev normed (c : Dev nD) : FVec Ideal S16384x1024 .f32 := (Cert.Reference2Ideal.Moe.refNorm (Cert.Reference2Ideal.Moe.refOut (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8)))

/-- The residual rows. -/
abbrev X1 (c : Dev nD) : FVec Ideal S16384x1024 .f32 := m ((c.tc : Thread nD τ).loc main_arg2)

/-- One element of a point's result: the residual, plus the adaptive gate times the normed output of its token. -/
theorem resAt_at (c : Dev nD) (t : Fin cfg0.N) (r : Fin 512) (d : Fin 1024) (a : EReal) (ha : (iblk m c 3 t (ix3 0 5 d) : EReal) = a) :
    resAt m c t (ix2 r d) = X1 m c (ix2 ⟨512 * t.val + r.val, by have : t.val < 32 := t.isLt; omega⟩ d)
      + a * normed m c (ix2 ⟨512 * t.val + r.val, by have : t.val < 32 := t.isLt; omega⟩ d) := by
  unfold resAt
  refine (moeRes_at _ _ _ _ _ _ _ _ r d).trans ?_
  have ho : Cert.Moe.out (fun x => iblk m c 0 t (ix2 r x)) (fun e => iblk m c 1 t (ix2 r (Fin.castLE (by decide) e))) (fun e x f => iblk m c 4 t (ix4 0 e x f))
          (fun e x f => iblk m c 5 t (ix4 0 e x f)) (fun e f d => iblk m c 6 t (ix3 0 ⟨e.val * 256 + f.val, by omega⟩ d))
      = fun d => Cert.Reference2Ideal.Moe.refOut (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (ix2 ⟨512 * t.val + r.val, by have : t.val < 32 := t.isLt; omega⟩ d) := by
    funext d
    refine Eq.trans ?_ (Cert.Reference2Ideal.Moe.refOut_at _ _ _ _ _ _ d).symm
    congr 1
    · exact funext fun x => in0 m c t r x
    · exact funext fun e => in1 m c t r e
    · exact funext fun e => funext fun x => funext fun f => in4 m c t e x f
    · exact funext fun e => funext fun x => funext fun f => in5 m c t e x f
    · exact funext fun e => funext fun f => funext fun d => in6 m c t e f d
  refine (congrArg (fun o => Cert.Moe.row o _ _ _ d) ho).trans ?_
  unfold Cert.Moe.row
  refine congrArg₂ (· + ·) (in2 m c t r d) ?_
  refine Eq.trans ?_ (congrArg (a * ·) (Cert.Reference2Ideal.Moe.refNorm_at _ _ _ d).symm)
  rw [← ha, ← in7 m c t d]
  ac_rfl

theorem final8 (c : Dev nD) : (dats m 0 c).arrAt 8 cfg0.N = Cert.Reference2Ideal.Moe.refLo (m ((c.tc : Thread nD τ).loc main_arg2)) (m ((c.tc : Thread nD τ).loc main_arg3)) (normed m c) := by
  refine (dats m 0 c).arrAt_eq_of_covers 8 _ (by decide +kernel) fun t hf y => ?_
  have ht : t.val < 32 := t.isLt
  have hs := (flush8_iff t).mp hf
  blk_simp
  rw [after0_8]
  idx_vars y
  have h : (((cfg0.win 8).blk t).view.emb (ix2 y0 y1) : S8192x1024.Idx) = ix2 ⟨512 * min t.val 15 + y0.val, by omega⟩ y1 := by
    blk_ext [idx t]
  refine Eq.trans ?_ (congrArg (Cert.Reference2Ideal.Moe.refLo (m ((c.tc : Thread nD τ).loc main_arg2)) (m ((c.tc : Thread nD τ).loc main_arg3)) (normed m c)) h).symm
  refine Eq.trans (resAt_at m c (lastLo t) y0 y1 _ (in3_lo m c (lastLo t) (by show min t.val 15 < 16; omega) y1)) ?_
  refine Eq.trans ?_ (Cert.Reference2Ideal.Moe.refLo_at _ _ _ _ y1).symm
  refine congrArg₂ (fun p q => X1 m c (ix2 p y1) + _ * normed m c (ix2 q y1)) (Fin.ext ?_) (Fin.ext ?_)
  all_goals rfl

theorem final9 (c : Dev nD) : (dats m 0 c).arrAt 9 cfg0.N = Cert.Reference2Ideal.Moe.refHi (m ((c.tc : Thread nD τ).loc main_arg2)) (m ((c.tc : Thread nD τ).loc main_arg4)) (normed m c) := by
  refine (dats m 0 c).arrAt_eq_of_covers 9 _ (by decide +kernel) fun t hf y => ?_
  have ht : t.val < 32 := t.isLt
  have hs := (flush9_iff t).mp hf
  blk_simp
  rw [after0_9]
  idx_vars y
  have h : (((cfg0.win 9).blk t).view.emb (ix2 y0 y1) : S8192x1024.Idx) = ix2 ⟨512 * (t.val - 16) + y0.val, by omega⟩ y1 := by
    blk_ext [idx t]
  refine Eq.trans ?_ (congrArg (Cert.Reference2Ideal.Moe.refHi (m ((c.tc : Thread nD τ).loc main_arg2)) (m ((c.tc : Thread nD τ).loc main_arg4)) (normed m c)) h).symm
  refine Eq.trans (resAt_at m c t y0 y1 _ (in3_hi m c t (by omega) ⟨(512 * (t.val - 16) + y0.val) / 4096, by omega⟩ (by show (512 * (t.val - 16) + y0.val) / 4096 = _; omega) y1)) ?_
  refine Eq.trans ?_ (Cert.Reference2Ideal.Moe.refHi_at _ _ _ _ y1).symm
  refine congrArg₂ (fun p q => X1 m c (ix2 p y1) + _ * normed m c (ix2 q y1)) (Fin.ext ?_) (Fin.ext ?_)
  all_goals (show 512 * t.val + y0.val = 8192 + (512 * (t.val - 16) + y0.val); omega)

end Cert.Kernel2Ideal.Moe

end
-- ==== Proof.MoeClaim.lean ====
module

public import proofs.«01_k».proof.Defs
public import proofs.«01_k».proof.Proof.Gen.Kernel2
public import proofs.«01_k».proof.Proof.MoeValue

@[expose] public section

set_option maxRecDepth 16384

noncomputable section

namespace Cert.Proof

open Idealize.ShloMosaic Idealize.SL.Sem

/-! # The claims about the experts' call -/

/-- The two printed programs call the same body. -/
theorem bodies2 : Cert.Kernel2.defs₀ (F := Bits) = Cert.Kernel2Ideal.defs₀ (F := Bits) := by
  funext p l a
  cases p with
  | tc =>
    match l, a with
    | 0, (t, s) => rfl
  | scScalar _ => rfl
  | scVector _ _ => rfl

theorem tables2 : Cert.Kernel2.defs (F := Bits) = Cert.Kernel2Ideal.defs (F := Bits) :=
  congrArg (Pipeline.defs (Cert.Kernel2Ideal.pcfgs (F := Bits))) bodies2

theorem mains2 : Cert.Kernel2.main (F := Bits) = Cert.Kernel2Ideal.main (F := Bits) := rfl

theorem quiescent2 : Cert.quiescent_Kernel2 := by
  intro m ρ _
  rw [tables2, mains2]
  exact Cert.Kernel2Ideal.Moe.frame (F := Bits) m ρ

theorem quiescent2_ideal : Cert.quiescent_Kernel2Ideal := fun m ρ _ => Cert.Kernel2Ideal.Moe.frame (F := Ideal) m ρ

theorem quiescent2_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem run2 (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v19_0) = (Cert.Kernel2Ideal.Moe.dats m 0 c).arrAt 8 Cert.Kernel2Ideal.cfg0.N
      ∧ r.2.mem ((c.tc : Thread Cert.Kernel2Ideal.nD Cert.Kernel2Ideal.τ).loc Cert.Kernel2Ideal.main_v19_1) = (Cert.Kernel2Ideal.Moe.dats m 0 c).arrAt 9 Cert.Kernel2Ideal.cfg0.N
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)) :=
  (θ_run Cert.Kernel2Ideal.defs _ _).mono (fun r h c => ⟨(h.1 c).1 8, (h.1 c).1 9, h.2.1 c⟩)
    (θ_run_and (Cert.Kernel2Ideal.Moe.run_main m g) (Cert.Kernel2Ideal.Moe.frame m g))

theorem algebraic2 : Cert.algebraic_Kernel2Ideal_Reference2Ideal := by
  pair_intro
  · run_from run2 m g
  · run_from Cert.Reference2Ideal.Value.run m' g'
    · refine (Cert.Reference2Ideal.Moe.res0_eq m' c).trans ?_
      rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2]
      exact (Cert.Kernel2Ideal.Moe.final8 m c).symm
    · refine (Cert.Reference2Ideal.Moe.res1_eq m' c).trans ?_
      rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2]
      exact (Cert.Kernel2Ideal.Moe.final9 m c).symm

end Cert.Proof

end
-- ==== Proof.lean ====
module

public import proofs.«01_k».proof.Defs
public import proofs.«01_k».proof.Proof.MlaClaim
public import proofs.«01_k».proof.Proof.MoeClaim
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_finite_scores

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_scores.Gen.facts,
  quiescent1, quiescent1_ideal, quiescent1_ideal_pre, quiescent1_reference, quiescent1_reference_pre,
  quiescent2, quiescent2_ideal, quiescent2_reference, trivial, algebraic1, trivial, algebraic2⟩

end Cert.Proof

end
